-- ==== Defs.lean ====
def Pre_Kernel [hPre_tokens_in_range : Cert.Pre_tokens_in_range.Facts] (m : (ℓ : Loc Cert.Kernel.nD Cert.Kernel.τ Cert.Kernel.sig) → Buf (Elt Bits) ℓ) : Prop :=
  ∀ c : Dev Cert.Kernel.nD,
    (Cert.Pre_tokens_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_tokens_in_range : Cert.Pre_tokens_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_in_range [hPre_tokens_in_range : Cert.Pre_tokens_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] [hPre_tokens_in_range : Cert.Pre_tokens_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] [hPre_tokens_in_range : Cert.Pre_tokens_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_tokens_in_range [hReferenceIdeal : Cert.ReferenceIdeal.Facts] [hPre_tokens_in_range : Cert.Pre_tokens_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tokens_in_range : Cert.Pre_tokens_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_tokens_in_range : Cert.Pre_tokens_in_range.Facts),
    quiescent_Kernel (hKernel := hKernel) (hPre_tokens_in_range := hPre_tokens_in_range)
    ∧ quiescent_KernelIdeal (hKernelIdeal := hKernelIdeal) (hPre_tokens_in_range := hPre_tokens_in_range)
    ∧ quiescent_ReferenceIdeal (hReferenceIdeal := hReferenceIdeal)
    ∧ quiescent_ReferenceIdeal_pre_tokens_in_range (hReferenceIdeal := hReferenceIdeal) (hPre_tokens_in_range := hPre_tokens_in_range)
    ∧ preserves_Kernel_KernelIdeal
    ∧ algebraic_KernelIdeal_ReferenceIdeal (hKernelIdeal := hKernelIdeal) (hReferenceIdeal := hReferenceIdeal) (hPre_tokens_in_range := hPre_tokens_in_range)
-- ==== Pre_tokens_in_range.lean ====
abbrev S4x2048 : Shape := ⟨2, ![4, 2048]⟩
abbrev S1024x1024 : Shape := ⟨2, ![1024, 1024]⟩
abbrev S1024x4096 : Shape := ⟨2, ![1024, 4096]⟩
abbrev S2048x4 : Shape := ⟨2, ![2048, 4]⟩
abbrev S2048 : Shape := ⟨1, ![2048]⟩
abbrev S2048x96 : Shape := ⟨2, ![2048, 96]⟩
abbrev S64x2048 : Shape := ⟨2, ![64, 2048]⟩
abbrev S2048x16 : Shape := ⟨2, ![2048, 16]⟩
abbrev S2048x1024 : Shape := ⟨2, ![2048, 1024]⟩
abbrev S1024 : Shape := ⟨1, ![1024]⟩
abbrev S_ : Shape := ⟨0, ![]⟩

class Facts : Prop where
  bcast_S_S4x2048 : S_.BroadcastsInDim S4x2048 (![] : Fin 0 → Fin S4x2048.rank)

variable [Facts]

def fn {F : FTy → Type} [FloatOps F] (main_arg0 : IVec S4x2048 32) (main_arg1 : FVec F S1024x1024 .f32) (main_arg2 : FVec F S1024x4096 .f32) (main_arg3 : FVec F S2048x4 .f32) (main_arg4 : FVec F S2048 .f32) (main_arg5 : FVec F S2048x96 .f32) (main_arg6 : FVec F S64x2048 .f32) (main_arg7 : FVec F S2048 .f32) (main_arg8 : FVec F S2048x16 .f32) (main_arg9 : FVec F S2048 .f32) (main_arg10 : FVec F S2048x1024 .f32) (main_arg11 : FVec F S1024x1024 .f32) (main_arg12 : FVec F S1024 .f32) : IVec S4x2048 1 :=
  let main_c : IVec S_ 32 := constantI S_ 32 0#32
  let main_v0 : IVec S4x2048 32 := broadcastInDim S4x2048 ![] bcast_S_S4x2048 main_c
  let main_v1 : IVec S4x2048 1 := cmpi .sge main_arg0 main_v0
  let main_c_0 : IVec S_ 32 := constantI S_ 32 1024#32
  let main_v2 : IVec S4x2048 32 := broadcastInDim S4x2048 ![] bcast_S_S4x2048 main_c_0
  let main_v3 : IVec S4x2048 1 := cmpi .slt main_arg0 main_v2
  let main_v4 : IVec S4x2048 1 := andi main_v1 main_v3
  main_v4
-- ==== Kernel.lean ====
abbrev S4x2048 : Shape := ⟨2, ![4, 2048]⟩
abbrev S1024x1024 : Shape := ⟨2, ![1024, 1024]⟩
abbrev S1024x4096 : Shape := ⟨2, ![1024, 4096]⟩
abbrev S2048x4 : Shape := ⟨2, ![2048, 4]⟩
abbrev S2048 : Shape := ⟨1, ![2048]⟩
abbrev S2048x96 : Shape := ⟨2, ![2048, 96]⟩
abbrev S64x2048 : Shape := ⟨2, ![64, 2048]⟩
abbrev S2048x16 : Shape := ⟨2, ![2048, 16]⟩
abbrev S2048x1024 : Shape := ⟨2, ![2048, 1024]⟩
abbrev S1024 : Shape := ⟨1, ![1024]⟩
abbrev S1024x2048 : Shape := ⟨2, ![1024, 2048]⟩
abbrev S512x1024 : Shape := ⟨2, ![512, 1024]⟩
abbrev S512x2048 : Shape := ⟨2, ![512, 2048]⟩
abbrev S1024x1x2048 : Shape := ⟨3, ![1024, 1, 2048]⟩
abbrev S4x1x2048 : Shape := ⟨3, ![4, 1, 2048]⟩
abbrev S1x1x2048 : Shape := ⟨3, ![1, 1, 2048]⟩
abbrev S1x2048 : Shape := ⟨2, ![1, 2048]⟩
abbrev S16x2048 : Shape := ⟨2, ![16, 2048]⟩
abbrev S4x16x2048 : Shape := ⟨3, ![4, 16, 2048]⟩
abbrev S1x16x2048 : Shape := ⟨3, ![1, 16, 2048]⟩
abbrev S264x1x2048 : Shape := ⟨3, ![264, 1, 2048]⟩
abbrev S256x2048 : Shape := ⟨2, ![256, 2048]⟩
abbrev S3x1x2048 : Shape := ⟨3, ![3, 1, 2048]⟩
abbrev S1x1 : Shape := ⟨2, ![1, 1]⟩
abbrev S256x1x2048 : Shape := ⟨3, ![256, 1, 2048]⟩
abbrev S256x96 : Shape := ⟨2, ![256, 96]⟩
abbrev S256x64 : Shape := ⟨2, ![256, 64]⟩
abbrev S256x256 : Shape := ⟨2, ![256, 256]⟩
abbrev S256x1 : Shape := ⟨2, ![256, 1]⟩
abbrev S4x1 : Shape := ⟨2, ![4, 1]⟩
abbrev S4 : Shape := ⟨1, ![4]⟩
abbrev S1x4 : Shape := ⟨2, ![1, 4]⟩
abbrev S1024x1x1024 : Shape := ⟨3, ![1024, 1, 1024]⟩
abbrev S1x1024 : Shape := ⟨2, ![1, 1024]⟩
abbrev S4x1024 : Shape := ⟨2, ![4, 1024]⟩
abbrev S1x1x1024 : Shape := ⟨3, ![1, 1, 1024]⟩
abbrev S4x16 : Shape := ⟨2, ![4, 16]⟩
abbrev S4x16x1 : Shape := ⟨3, ![4, 16, 1]⟩

abbrev nBuf : Space → Nat
  | .hbm => 33
  | .vmem => 32
  | .smem => 2
  | _ => 0

abbrev bufTy : (tb : Table) → Fin (tcTables nBuf tb) → BufTy
  | .hbm, ⟨0, _⟩ => ⟨S4x2048, .i32⟩
  | .hbm, ⟨1, _⟩ => ⟨S1024x1024, .f32⟩
  | .hbm, ⟨2, _⟩ => ⟨S1024x4096, .f32⟩
  | .hbm, ⟨3, _⟩ => ⟨S2048x4, .f32⟩
  | .hbm, ⟨4, _⟩ => ⟨S2048, .f32⟩
  | .hbm, ⟨5, _⟩ => ⟨S2048x96, .f32⟩
  | .hbm, ⟨6, _⟩ => ⟨S64x2048, .f32⟩
  | .hbm, ⟨7, _⟩ => ⟨S2048, .f32⟩
  | .hbm, ⟨8, _⟩ => ⟨S2048x16, .f32⟩
  | .hbm, ⟨9, _⟩ => ⟨S2048, .f32⟩
  | .hbm, ⟨10, _⟩ => ⟨S2048x1024, .f32⟩
  | .hbm, ⟨11, _⟩ => ⟨S1024x1024, .f32⟩
  | .hbm, ⟨12, _⟩ => ⟨S1024, .f32⟩
  | .hbm, ⟨13, _⟩ => ⟨S1024x2048, .f32⟩
  | .hbm, ⟨14, _⟩ => ⟨S1024x2048, .f32⟩
  | .hbm, ⟨15, _⟩ => ⟨S1024x2048, .f32⟩
  | .hbm, ⟨16, _⟩ => ⟨S1024x1x2048, .f32⟩
  | .hbm, ⟨17, _⟩ => ⟨S4x2048, .f32⟩
  | .hbm, ⟨18, _⟩ => ⟨S4x1x2048, .f32⟩
  | .hbm, ⟨19, _⟩ => ⟨S1x1x2048, .f32⟩
  | .hbm, ⟨20, _⟩ => ⟨S1x2048, .f32⟩
  | .hbm, ⟨21, _⟩ => ⟨S16x2048, .f32⟩
  | .hbm, ⟨22, _⟩ => ⟨S4x16x2048, .f32⟩
  | .hbm, ⟨23, _⟩ => ⟨S4x1x2048, .f32⟩
  | .hbm, ⟨24, _⟩ => ⟨S4x1, .i32⟩
  | .hbm, ⟨25, _⟩ => ⟨S4, .i32⟩
  | .hbm, ⟨26, _⟩ => ⟨S1x4, .i32⟩
  | .hbm, ⟨27, _⟩ => ⟨S1024x1x1024, .f32⟩
  | .hbm, ⟨28, _⟩ => ⟨S4x2048, .f32⟩
  | .hbm, ⟨29, _⟩ => ⟨S2048x16, .f32⟩
  | .hbm, ⟨30, _⟩ => ⟨S1x2048, .f32⟩
  | .hbm, ⟨31, _⟩ => ⟨S1x1024, .f32⟩
  | .hbm, ⟨32, _⟩ => ⟨S4x1024, .f32⟩
  | .local _ .vmem, ⟨0, _⟩ => ⟨S512x1024, .f32⟩
  | .local _ .vmem, ⟨1, _⟩ => ⟨S512x1024, .f32⟩
  | .local _ .vmem, ⟨2, _⟩ => ⟨S1024x2048, .f32⟩
  | .local _ .vmem, ⟨3, _⟩ => ⟨S512x2048, .f32⟩
  | .local _ .vmem, ⟨4, _⟩ => ⟨S512x2048, .f32⟩
  | .local _ .vmem, ⟨5, _⟩ => ⟨S1024x1x2048, .f32⟩
  | .local _ .vmem, ⟨6, _⟩ => ⟨S4x1x2048, .f32⟩
  | .local _ .vmem, ⟨7, _⟩ => ⟨S1x1x2048, .f32⟩
  | .local _ .vmem, ⟨8, _⟩ => ⟨S2048x96, .f32⟩
  | .local _ .vmem, ⟨9, _⟩ => ⟨S64x2048, .f32⟩
  | .local _ .vmem, ⟨10, _⟩ => ⟨S1x2048, .f32⟩
  | .local _ .vmem, ⟨11, _⟩ => ⟨S16x2048, .f32⟩
  | .local _ .vmem, ⟨12, _⟩ => ⟨S1x16x2048, .f32⟩
  | .local _ .vmem, ⟨13, _⟩ => ⟨S1x16x2048, .f32⟩
  | .local _ .vmem, ⟨14, _⟩ => ⟨S1x1x2048, .f32⟩
  | .local _ .vmem, ⟨15, _⟩ => ⟨S1x1x2048, .f32⟩
  | .local _ .vmem, ⟨16, _⟩ => ⟨S264x1x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S16x2048, .f32⟩
  | .local _ .vmem, ⟨22, _⟩ => ⟨S1024x1x1024, .f32⟩
  | .local _ .vmem, ⟨23, _⟩ => ⟨S1024x2048, .f32⟩
  | .local _ .vmem, ⟨24, _⟩ => ⟨S4x16x2048, .f32⟩
  | .local _ .vmem, ⟨25, _⟩ => ⟨S4x2048, .f32⟩
  | .local _ .vmem, ⟨26, _⟩ => ⟨S2048x16, .f32⟩
  | .local _ .vmem, ⟨27, _⟩ => ⟨S1x2048, .f32⟩
  | .local _ .vmem, ⟨28, _⟩ => ⟨S2048x1024, .f32⟩
  | .local _ .vmem, ⟨29, _⟩ => ⟨S1024x1024, .f32⟩
  | .local _ .vmem, ⟨30, _⟩ => ⟨S1x1024, .f32⟩
  | .local _ .vmem, ⟨31, _⟩ => ⟨S4x1024, .f32⟩
  | .local _ .smem, ⟨0, _⟩ => ⟨S4x2048, .i32⟩
  | .local _ .smem, ⟨1, _⟩ => ⟨S1x4, .i32⟩
  | _, _ => ⟨S4x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg8_0 : Ref sig .tc := ⟨.vmem, 12, rfl⟩
abbrev cc1_stg8_1 : Ref sig .tc := ⟨.vmem, 13, rfl⟩
abbrev cc1_stg9_0 : Ref sig .tc := ⟨.vmem, 14, rfl⟩
abbrev cc1_stg9_1 : Ref sig .tc := ⟨.vmem, 15, rfl⟩
abbrev cc1_scratch0 : Ref sig .tc := ⟨.vmem, 16, rfl⟩
abbrev cc1_scratch1 : Ref sig .tc := ⟨.vmem, 17, rfl⟩
abbrev cc1_scratch2 : Ref sig .tc := ⟨.vmem, 18, rfl⟩
abbrev cc1_scratch3 : Ref sig .tc := ⟨.vmem, 19, rfl⟩
abbrev cc1_scratch4 : Ref sig .tc := ⟨.vmem, 20, rfl⟩
abbrev cc1_scratch5 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg9_0 : Ref sig .tc := ⟨.vmem, 30, rfl⟩
abbrev cc2_stg10_0 : Ref sig .tc := ⟨.vmem, 31, rfl⟩
abbrev cc1_stg0_0 : Ref sig .tc := ⟨.smem, 0, rfl⟩
abbrev cc2_stg0_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem8_1 : DmaSem sig := 14
abbrev cc1_sem9_0 : DmaSem sig := 15
abbrev cc1_sem9_1 : DmaSem sig := 16
abbrev cc2_sem0_0 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem8_0 : DmaSem sig := 25
abbrev cc2_sem9_0 : DmaSem sig := 26
abbrev cc2_sem10_0 : DmaSem sig := 27

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 8], ![false, false]⟩

@[reducible] def k1_t1_loop : Scf.Loop 32 :=
  let c0_i32_1 : BitVec 32 := 0#32
  let c32_i32 : BitVec 32 := 32#32
  let v3 : BitVec 32 := Scalar.addi c0_i32_1 c32_i32
  let c1_i32 : BitVec 32 := 1#32
  ⟨c0_i32_1, v3, c1_i32⟩
def k1_off1 (i : grid1.Coords) (k1_t1 : Fin k1_t1_loop.trips) : Fin 2 → Nat :=
  let arg0 : BitVec 32 := BitVec.ofNat 32 (i 0).val
  let v272 : Index := Scalar.indexCast arg0
  let arg1 : BitVec 32 := BitVec.ofNat 32 (i 1).val
  let c256_i32 : BitVec 32 := 256#32
  let v270 : BitVec 32 := Scalar.muli arg1 c256_i32
  let c0_i32_1 : BitVec 32 := 0#32
  let c1_i32 : BitVec 32 := 1#32
  let arg18 : BitVec 32 := Scf.iv c0_i32_1 c1_i32 k1_t1
  let c8_i32 : BitVec 32 := 8#32
  let v268 : BitVec 32 := Scalar.muli arg18 c8_i32
  let c0_i32_87 : BitVec 32 := 0#32
  let v269 : BitVec 32 := Scalar.addi v268 c0_i32_87
  let v271 : BitVec 32 := Scalar.addi v270 v269
  let v273 : Index := Scalar.indexCast v271
  ![v272.toNat, v273.toNat]
def k1_off2 (v274 : BitVec 32) : Fin 3 → Nat :=
  let v275 : Index := Scalar.indexCast v274
  let c0_88 : Index := 0#32
  let c0_89 : Index := 0#32
  ![v275.toNat, 0, 0]

def k1_chk1 (v274 : BitVec 32) : Prop :=
  (∀ a, (k1_off2 v274) a + S1x1x2048.size a ≤ S1024x1x2048.size a)
theorem k1_off2_inb : ∀ (v274 : BitVec 32) (k1_hw1 : k1_chk1 v274), ∀ a, (k1_off2 v274) a + S1x1x2048.size a ≤ S1024x1x2048.size a := fun v274 k1_hw1 => k1_hw1

def k1_off3 (k1_t1 : Fin k1_t1_loop.trips) : Fin 3 → Nat :=
  let c8_i32_90 : BitVec 32 := 8#32
  let c0_i32_1 : BitVec 32 := 0#32
  let c1_i32 : BitVec 32 := 1#32
  let arg18 : BitVec 32 := Scf.iv c0_i32_1 c1_i32 k1_t1
  let c8_i32 : BitVec 32 := 8#32
  let v268 : BitVec 32 := Scalar.muli arg18 c8_i32
  let c0_i32_87 : BitVec 32 := 0#32
  let v269 : BitVec 32 := Scalar.addi v268 c0_i32_87
  let v278 : BitVec 32 := Scalar.addi c8_i32_90 v269
  let v279 : Index := Scalar.indexCast v278
  let c0_91 : Index := 0#32
  let c0_92 : Index := 0#32
  ![v279.toNat, 0, 0]
def k1_off4 (i : grid1.Coords) (k1_t1 : Fin k1_t1_loop.trips) : Fin 2 → Nat :=
  let arg0 : BitVec 32 := BitVec.ofNat 32 (i 0).val
  let v287 : Index := Scalar.indexCast arg0
  let arg1 : BitVec 32 := BitVec.ofNat 32 (i 1).val
  let c256_i32_95 : BitVec 32 := 256#32
  let v285 : BitVec 32 := Scalar.muli arg1 c256_i32_95
  let c0_i32_1 : BitVec 32 := 0#32
  let c1_i32 : BitVec 32 := 1#32
  let arg18 : BitVec 32 := Scf.iv c0_i32_1 c1_i32 k1_t1
  let c8_i32_93 : BitVec 32 := 8#32
  let v283 : BitVec 32 := Scalar.muli arg18 c8_i32_93
  let c1_i32_94 : BitVec 32 := 1#32
  let v284 : BitVec 32 := Scalar.addi v283 c1_i32_94
  let v286 : BitVec 32 := Scalar.addi v285 v284
  let v288 : Index := Scalar.indexCast v286
  ![v287.toNat, v288.toNat]
def k1_off5 (v289 : BitVec 32) : Fin 3 → Nat :=
  let v290 : Index := Scalar.indexCast v289
  let c0_96 : Index := 0#32
  let c0_97 : Index := 0#32
  ![v290.toNat, 0, 0]

def k1_chk2 (v289 : BitVec 32) : Prop :=
  (∀ a, (k1_off5 v289) a + S1x1x2048.size a ≤ S1024x1x2048.size a)
theorem k1_off5_inb : ∀ (v289 : BitVec 32) (k1_hw2 : k1_chk2 v289), ∀ a, (k1_off5 v289) a + S1x1x2048.size a ≤ S1024x1x2048.size a := fun v289 k1_hw2 => k1_hw2

def k1_off6 (k1_t1 : Fin k1_t1_loop.trips) : Fin 3 → Nat :=
  let c8_i32_98 : BitVec 32 := 8#32
  let c0_i32_1 : BitVec 32 := 0#32
  let c1_i32 : BitVec 32 := 1#32
  let arg18 : BitVec 32 := Scf.iv c0_i32_1 c1_i32 k1_t1
  let c8_i32_93 : BitVec 32 := 8#32
  let v283 : BitVec 32 := Scalar.muli arg18 c8_i32_93
  let c1_i32_94 : BitVec 32 := 1#32
  let v284 : BitVec 32 := Scalar.addi v283 c1_i32_94
  let v293 : BitVec 32 := Scalar.addi c8_i32_98 v284
  let v294 : Index := Scalar.indexCast v293
  let c0_99 : Index := 0#32
  let c0_100 : Index := 0#32
  ![v294.toNat, 0, 0]
def k1_off7 (i : grid1.Coords) (k1_t1 : Fin k1_t1_loop.trips) : Fin 2 → Nat :=
  let arg0 : BitVec 32 := BitVec.ofNat 32 (i 0).val
  let v302 : Index := Scalar.indexCast arg0
  let arg1 : BitVec 32 := BitVec.ofNat 32 (i 1).val
  let c256_i32_102 : BitVec 32 := 256#32
  let v300 : BitVec 32 := Scalar.muli arg1 c256_i32_102
  let c0_i32_1 : BitVec 32 := 0#32
  let c1_i32 : BitVec 32 := 1#32
  let arg18 : BitVec 32 := Scf.iv c0_i32_1 c1_i32 k1_t1
  let c8_i32_101 : BitVec 32 := 8#32
  let v298 : BitVec 32 := Scalar.muli arg18 c8_i32_101
  let c2_i32 : BitVec 32 := 2#32
  let v299 : BitVec 32 := Scalar.addi v298 c2_i32
  let v301 : BitVec 32 := Scalar.addi v300 v299
  let v303 : Index := Scalar.indexCast v301
  ![v302.toNat, v303.toNat]
def k1_off8 (v304 : BitVec 32) : Fin 3 → Nat :=
  let v305 : Index := Scalar.indexCast v304
  let c0_103 : Index := 0#32
  let c0_104 : Index := 0#32
  ![v305.toNat, 0, 0]

def k1_chk3 (v304 : BitVec 32) : Prop :=
  (∀ a, (k1_off8 v304) a + S1x1x2048.size a ≤ S1024x1x2048.size a)
theorem k1_off8_inb : ∀ (v304 : BitVec 32) (k1_hw3 : k1_chk3 v304), ∀ a, (k1_off8 v304) a + S1x1x2048.size a ≤ S1024x1x2048.size a := fun v304 k1_hw3 => k1_hw3

def k1_off9 (k1_t1 : Fin k1_t1_loop.trips) : Fin 3 → Nat :=
  let c8_i32_105 : BitVec 32 := 8#32
  let c0_i32_1 : BitVec 32 := 0#32
  let c1_i32 : BitVec 32 := 1#32
  let arg18 : BitVec 32 := Scf.iv c0_i32_1 c1_i32 k1_t1
  let c8_i32_101 : BitVec 32 := 8#32
  let v298 : BitVec 32 := Scalar.muli arg18 c8_i32_101
  let c2_i32 : BitVec 32 := 2#32
  let v299 : BitVec 32 := Scalar.addi v298 c2_i32
  let v308 : BitVec 32 := Scalar.addi c8_i32_105 v299
  let v309 : Index := Scalar.indexCast v308
  let c0_106 : Index := 0#32
  let c0_107 : Index := 0#32
  ![v309.toNat, 0, 0]
def k1_off10 (i : grid1.Coords) (k1_t1 : Fin k1_t1_loop.trips) : Fin 2 → Nat :=
  let arg0 : BitVec 32 := BitVec.ofNat 32 (i 0).val
  let v317 : Index := Scalar.indexCast arg0
  let arg1 : BitVec 32 := BitVec.ofNat 32 (i 1).val
  let c256_i32_109 : BitVec 32 := 256#32
  let v315 : BitVec 32 := Scalar.muli arg1 c256_i32_109
  let c0_i32_1 : BitVec 32 := 0#32
  let c1_i32 : BitVec 32 := 1#32
  let arg18 : BitVec 32 := Scf.iv c0_i32_1 c1_i32 k1_t1
  let c8_i32_108 : BitVec 32 := 8#32
  let v313 : BitVec 32 := Scalar.muli arg18 c8_i32_108
  let c3_i32 : BitVec 32 := 3#32
  let v314 : BitVec 32 := Scalar.addi v313 c3_i32
  let v316 : BitVec 32 := Scalar.addi v315 v314
  let v318 : Index := Scalar.indexCast v316
  ![v317.toNat, v318.toNat]
def k1_off11 (v319 : BitVec 32) : Fin 3 → Nat :=
  let v320 : Index := Scalar.indexCast v319
  let c0_110 : Index := 0#32
  let c0_111 : Index := 0#32
  ![v320.toNat, 0, 0]

def k1_chk4 (v319 : BitVec 32) : Prop :=
  (∀ a, (k1_off11 v319) a + S1x1x2048.size a ≤ S1024x1x2048.size a)
theorem k1_off11_inb : ∀ (v319 : BitVec 32) (k1_hw4 : k1_chk4 v319), ∀ a, (k1_off11 v319) a + S1x1x2048.size a ≤ S1024x1x2048.size a := fun v319 k1_hw4 => k1_hw4

def k1_off12 (k1_t1 : Fin k1_t1_loop.trips) : Fin 3 → Nat :=
  let c8_i32_112 : BitVec 32 := 8#32
  let c0_i32_1 : BitVec 32 := 0#32
  let c1_i32 : BitVec 32 := 1#32
  let arg18 : BitVec 32 := Scf.iv c0_i32_1 c1_i32 k1_t1
  let c8_i32_108 : BitVec 32 := 8#32
  let v313 : BitVec 32 := Scalar.muli arg18 c8_i32_108
  let c3_i32 : BitVec 32 := 3#32
  let v314 : BitVec 32 := Scalar.addi v313 c3_i32
  let v323 : BitVec 32 := Scalar.addi c8_i32_112 v314
  let v324 : Index := Scalar.indexCast v323
  let c0_113 : Index := 0#32
  let c0_114 : Index := 0#32
  ![v324.toNat, 0, 0]
def k1_off13 (i : grid1.Coords) (k1_t1 : Fin k1_t1_loop.trips) : Fin 2 → Nat :=
  let arg0 : BitVec 32 := BitVec.ofNat 32 (i 0).val
  let v332 : Index := Scalar.indexCast arg0
  let arg1 : BitVec 32 := BitVec.ofNat 32 (i 1).val
  let c256_i32_116 : BitVec 32 := 256#32
  let v330 : BitVec 32 := Scalar.muli arg1 c256_i32_116
  let c0_i32_1 : BitVec 32 := 0#32
  let c1_i32 : BitVec 32 := 1#32
  let arg18 : BitVec 32 := Scf.iv c0_i32_1 c1_i32 k1_t1
  let c8_i32_115 : BitVec 32 := 8#32
  let v328 : BitVec 32 := Scalar.muli arg18 c8_i32_115
  let c4_i32 : BitVec 32 := 4#32
  let v329 : BitVec 32 := Scalar.addi v328 c4_i32
  let v331 : BitVec 32 := Scalar.addi v330 v329
  let v333 : Index := Scalar.indexCast v331
  ![v332.toNat, v333.toNat]
def k1_off14 (v334 : BitVec 32) : Fin 3 → Nat :=
  let v335 : Index := Scalar.indexCast v334
  let c0_117 : Index := 0#32
  let c0_118 : Index := 0#32
  ![v335.toNat, 0, 0]

def k1_chk5 (v334 : BitVec 32) : Prop :=
  (∀ a, (k1_off14 v334) a + S1x1x2048.size a ≤ S1024x1x2048.size a)
theorem k1_off14_inb : ∀ (v334 : BitVec 32) (k1_hw5 : k1_chk5 v334), ∀ a, (k1_off14 v334) a + S1x1x2048.size a ≤ S1024x1x2048.size a := fun v334 k1_hw5 => k1_hw5

def k1_off15 (k1_t1 : Fin k1_t1_loop.trips) : Fin 3 → Nat :=
  let c8_i32_119 : BitVec 32 := 8#32
  let c0_i32_1 : BitVec 32 := 0#32
  let c1_i32 : BitVec 32 := 1#32
  let arg18 : BitVec 32 := Scf.iv c0_i32_1 c1_i32 k1_t1
  let c8_i32_115 : BitVec 32 := 8#32
  let v328 : BitVec 32 := Scalar.muli arg18 c8_i32_115
  let c4_i32 : BitVec 32 := 4#32
  let v329 : BitVec 32 := Scalar.addi v328 c4_i32
  let v338 : BitVec 32 := Scalar.addi c8_i32_119 v329
  let v339 : Index := Scalar.indexCast v338
  let c0_120 : Index := 0#32
  let c0_121 : Index := 0#32
  ![v339.toNat, 0, 0]
def k1_off16 (i : grid1.Coords) (k1_t1 : Fin k1_t1_loop.trips) : Fin 2 → Nat :=
  let arg0 : BitVec 32 := BitVec.ofNat 32 (i 0).val
  let v347 : Index := Scalar.indexCast arg0
  let arg1 : BitVec 32 := BitVec.ofNat 32 (i 1).val
  let c256_i32_123 : BitVec 32 := 256#32
  let v345 : BitVec 32 := Scalar.muli arg1 c256_i32_123
  let c0_i32_1 : BitVec 32 := 0#32
  let c1_i32 : BitVec 32 := 1#32
  let arg18 : BitVec 32 := Scf.iv c0_i32_1 c1_i32 k1_t1
  let c8_i32_122 : BitVec 32 := 8#32
  let v343 : BitVec 32 := Scalar.muli arg18 c8_i32_122
  let c5_i32 : BitVec 32 := 5#32
  let v344 : BitVec 32 := Scalar.addi v343 c5_i32
  let v346 : BitVec 32 := Scalar.addi v345 v344
  let v348 : Index := Scalar.indexCast v346
  ![v347.toNat, v348.toNat]
def k1_off17 (v349 : BitVec 32) : Fin 3 → Nat :=
  let v350 : Index := Scalar.indexCast v349
  let c0_124 : Index := 0#32
  let c0_125 : Index := 0#32
  ![v350.toNat, 0, 0]

def k1_chk6 (v349 : BitVec 32) : Prop :=
  (∀ a, (k1_off17 v349) a + S1x1x2048.size a ≤ S1024x1x2048.size a)
theorem k1_off17_inb : ∀ (v349 : BitVec 32) (k1_hw6 : k1_chk6 v349), ∀ a, (k1_off17 v349) a + S1x1x2048.size a ≤ S1024x1x2048.size a := fun v349 k1_hw6 => k1_hw6

def k1_off18 (k1_t1 : Fin k1_t1_loop.trips) : Fin 3 → Nat :=
  let c8_i32_126 : BitVec 32 := 8#32
  let c0_i32_1 : BitVec 32 := 0#32
  let c1_i32 : BitVec 32 := 1#32
  let arg18 : BitVec 32 := Scf.iv c0_i32_1 c1_i32 k1_t1
  let c8_i32_122 : BitVec 32 := 8#32
  let v343 : BitVec 32 := Scalar.muli arg18 c8_i32_122
  let c5_i32 : BitVec 32 := 5#32
  let v344 : BitVec 32 := Scalar.addi v343 c5_i32
  let v353 : BitVec 32 := Scalar.addi c8_i32_126 v344
  let v354 : Index := Scalar.indexCast v353
  let c0_127 : Index := 0#32
  let c0_128 : Index := 0#32
  ![v354.toNat, 0, 0]
def k1_off19 (i : grid1.Coords) (k1_t1 : Fin k1_t1_loop.trips) : Fin 2 → Nat :=
  let arg0 : BitVec 32 := BitVec.ofNat 32 (i 0).val
  let v362 : Index := Scalar.indexCast arg0
  let arg1 : BitVec 32 := BitVec.ofNat 32 (i 1).val
  let c256_i32_130 : BitVec 32 := 256#32
  let v360 : BitVec 32 := Scalar.muli arg1 c256_i32_130
  let c0_i32_1 : BitVec 32 := 0#32
  let c1_i32 : BitVec 32 := 1#32
  let arg18 : BitVec 32 := Scf.iv c0_i32_1 c1_i32 k1_t1
  let c8_i32_129 : BitVec 32 := 8#32
  let v358 : BitVec 32 := Scalar.muli arg18 c8_i32_129
  let c6_i32 : BitVec 32 := 6#32
  let v359 : BitVec 32 := Scalar.addi v358 c6_i32
  let v361 : BitVec 32 := Scalar.addi v360 v359
  let v363 : Index := Scalar.indexCast v361
  ![v362.toNat, v363.toNat]
def k1_off20 (v364 : BitVec 32) : Fin 3 → Nat :=
  let v365 : Index := Scalar.indexCast v364
  let c0_131 : Index := 0#32
  let c0_132 : Index := 0#32
  ![v365.toNat, 0, 0]

def k1_chk7 (v364 : BitVec 32) : Prop :=
  (∀ a, (k1_off20 v364) a + S1x1x2048.size a ≤ S1024x1x2048.size a)
theorem k1_off20_inb : ∀ (v364 : BitVec 32) (k1_hw7 : k1_chk7 v364), ∀ a, (k1_off20 v364) a + S1x1x2048.size a ≤ S1024x1x2048.size a := fun v364 k1_hw7 => k1_hw7

def k1_off21 (k1_t1 : Fin k1_t1_loop.trips) : Fin 3 → Nat :=
  let c8_i32_133 : BitVec 32 := 8#32
  let c0_i32_1 : BitVec 32 := 0#32
  let c1_i32 : BitVec 32 := 1#32
  let arg18 : BitVec 32 := Scf.iv c0_i32_1 c1_i32 k1_t1
  let c8_i32_129 : BitVec 32 := 8#32
  let v358 : BitVec 32 := Scalar.muli arg18 c8_i32_129
  let c6_i32 : BitVec 32 := 6#32
  let v359 : BitVec 32 := Scalar.addi v358 c6_i32
  let v368 : BitVec 32 := Scalar.addi c8_i32_133 v359
  let v369 : Index := Scalar.indexCast v368
  let c0_134 : Index := 0#32
  let c0_135 : Index := 0#32
  ![v369.toNat, 0, 0]
def k1_off22 (i : grid1.Coords) (k1_t1 : Fin k1_t1_loop.trips) : Fin 2 → Nat :=
  let arg0 : BitVec 32 := BitVec.ofNat 32 (i 0).val
  let v377 : Index := Scalar.indexCast arg0
  let arg1 : BitVec 32 := BitVec.ofNat 32 (i 1).val
  let c256_i32_137 : BitVec 32 := 256#32
  let v375 : BitVec 32 := Scalar.muli arg1 c256_i32_137
  let c0_i32_1 : BitVec 32 := 0#32
  let c1_i32 : BitVec 32 := 1#32
  let arg18 : BitVec 32 := Scf.iv c0_i32_1 c1_i32 k1_t1
  let c8_i32_136 : BitVec 32 := 8#32
  let v373 : BitVec 32 := Scalar.muli arg18 c8_i32_136
  let c7_i32 : BitVec 32 := 7#32
  let v374 : BitVec 32 := Scalar.addi v373 c7_i32
  let v376 : BitVec 32 := Scalar.addi v375 v374
  let v378 : Index := Scalar.indexCast v376
  ![v377.toNat, v378.toNat]
def k1_off23 (v379 : BitVec 32) : Fin 3 → Nat :=
  let v380 : Index := Scalar.indexCast v379
  let c0_138 : Index := 0#32
  let c0_139 : Index := 0#32
  ![v380.toNat, 0, 0]

def k1_chk8 (v379 : BitVec 32) : Prop :=
  (∀ a, (k1_off23 v379) a + S1x1x2048.size a ≤ S1024x1x2048.size a)
theorem k1_off23_inb : ∀ (v379 : BitVec 32) (k1_hw8 : k1_chk8 v379), ∀ a, (k1_off23 v379) a + S1x1x2048.size a ≤ S1024x1x2048.size a := fun v379 k1_hw8 => k1_hw8

def k1_off24 (k1_t1 : Fin k1_t1_loop.trips) : Fin 3 → Nat :=
  let c8_i32_140 : BitVec 32 := 8#32
  let c0_i32_1 : BitVec 32 := 0#32
  let c1_i32 : BitVec 32 := 1#32
  let arg18 : BitVec 32 := Scf.iv c0_i32_1 c1_i32 k1_t1
  let c8_i32_136 : BitVec 32 := 8#32
  let v373 : BitVec 32 := Scalar.muli arg18 c8_i32_136
  let c7_i32 : BitVec 32 := 7#32
  let v374 : BitVec 32 := Scalar.addi v373 c7_i32
  let v383 : BitVec 32 := Scalar.addi c8_i32_140 v374
  let v384 : Index := Scalar.indexCast v383
  let c0_141 : Index := 0#32
  let c0_142 : Index := 0#32
  ![v384.toNat, 0, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .smem S4x2048 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S1024x1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S4x1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S2048x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S64x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S16x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x16x2048 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x1x2048 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev grid2 : Pipeline.Grid := .none

def k2_off1 (v0 : BitVec 32) : Fin 3 → Nat :=
  let v1 : Index := Scalar.indexCast v0
  let c0_1 : Index := 0#32
  let c0_2 : Index := 0#32
  ![v1.toNat, 0, 0]

def k2_chk1 (v0 : BitVec 32) : Prop :=
  (∀ a, (k2_off1 v0) a + S1x1x1024.size a ≤ S1024x1x1024.size a)
theorem k2_off1_inb : ∀ (v0 : BitVec 32) (k2_hw1 : k2_chk1 v0), ∀ a, (k2_off1 v0) a + S1x1x1024.size a ≤ S1024x1x1024.size a := fun v0 k2_hw1 => k2_hw1

def k2_off2 (v4 : BitVec 32) : Fin 3 → Nat :=
  let v5 : Index := Scalar.indexCast v4
  let c0_4 : Index := 0#32
  let c0_5 : Index := 0#32
  ![v5.toNat, 0, 0]

def k2_chk2 (v4 : BitVec 32) : Prop :=
  (∀ a, (k2_off2 v4) a + S1x1x1024.size a ≤ S1024x1x1024.size a)
theorem k2_off2_inb : ∀ (v4 : BitVec 32) (k2_hw2 : k2_chk2 v4), ∀ a, (k2_off2 v4) a + S1x1x1024.size a ≤ S1024x1x1024.size a := fun v4 k2_hw2 => k2_hw2

def k2_off3 (v8 : BitVec 32) : Fin 3 → Nat :=
  let v9 : Index := Scalar.indexCast v8
  let c0_7 : Index := 0#32
  let c0_8 : Index := 0#32
  ![v9.toNat, 0, 0]

def k2_chk3 (v8 : BitVec 32) : Prop :=
  (∀ a, (k2_off3 v8) a + S1x1x1024.size a ≤ S1024x1x1024.size a)
theorem k2_off3_inb : ∀ (v8 : BitVec 32) (k2_hw3 : k2_chk3 v8), ∀ a, (k2_off3 v8) a + S1x1x1024.size a ≤ S1024x1x1024.size a := fun v8 k2_hw3 => k2_hw3

def k2_off4 (v12 : BitVec 32) : Fin 3 → Nat :=
  let v13 : Index := Scalar.indexCast v12
  let c0_10 : Index := 0#32
  let c0_11 : Index := 0#32
  ![v13.toNat, 0, 0]

def k2_chk4 (v12 : BitVec 32) : Prop :=
  (∀ a, (k2_off4 v12) a + S1x1x1024.size a ≤ S1024x1x1024.size a)
theorem k2_off4_inb : ∀ (v12 : BitVec 32) (k2_hw4 : k2_chk4 v12), ∀ a, (k2_off4 v12) a + S1x1x1024.size a ≤ S1024x1x1024.size a := fun v12 k2_hw4 => k2_hw4

abbrev stage2_0 : Fin 1 → Memref sig .tc .smem S1x4 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1024x1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1024x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S4x16x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S4x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S2048x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S1x2048 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S2048x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S1024x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S1x1024 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev stage2_10 : Fin 1 → Memref sig .tc .vmem S4x1024 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
-- ==== ReferenceIdeal.lean ====
abbrev S4x2048 : Shape := ⟨2, ![4, 2048]⟩
abbrev S1024x1024 : Shape := ⟨2, ![1024, 1024]⟩
abbrev S1024x4096 : Shape := ⟨2, ![1024, 4096]⟩
abbrev S2048x4 : Shape := ⟨2, ![2048, 4]⟩
abbrev S2048 : Shape := ⟨1, ![2048]⟩
abbrev S2048x96 : Shape := ⟨2, ![2048, 96]⟩
abbrev S64x2048 : Shape := ⟨2, ![64, 2048]⟩
abbrev S2048x16 : Shape := ⟨2, ![2048, 16]⟩
abbrev S2048x1024 : Shape := ⟨2, ![2048, 1024]⟩
abbrev S1024 : Shape := ⟨1, ![1024]⟩
abbrev S_ : Shape := ⟨0, ![]⟩
abbrev S4x2048x1 : Shape := ⟨3, ![4, 2048, 1]⟩
abbrev S4x2048x1024 : Shape := ⟨3, ![4, 2048, 1024]⟩
abbrev S4x2048x4096 : Shape := ⟨3, ![4, 2048, 4096]⟩
abbrev S4x2048x2048 : Shape := ⟨3, ![4, 2048, 2048]⟩
abbrev S4x2051x2048 : Shape := ⟨3, ![4, 2051, 2048]⟩
abbrev S2048x1 : Shape := ⟨2, ![2048, 1]⟩
abbrev S1x1x2048 : Shape := ⟨3, ![1, 1, 2048]⟩
abbrev S4x2048x96 : Shape := ⟨3, ![4, 2048, 96]⟩
abbrev S4x2048x64 : Shape := ⟨3, ![4, 2048, 64]⟩
abbrev S4x2048x16 : Shape := ⟨3, ![4, 2048, 16]⟩
abbrev S2048x4x2048 : Shape := ⟨3, ![2048, 4, 2048]⟩
abbrev S2048x4x16 : Shape := ⟨3, ![2048, 4, 16]⟩
abbrev S1x4x2048 : Shape := ⟨3, ![1, 4, 2048]⟩
abbrev S1x4x16 : Shape := ⟨3, ![1, 4, 16]⟩
abbrev S4x16 : Shape := ⟨2, ![4, 16]⟩
abbrev S1x2048x16 : Shape := ⟨3, ![1, 2048, 16]⟩
abbrev S4x1x16 : Shape := ⟨3, ![4, 1, 16]⟩
abbrev S4x1x1024 : Shape := ⟨3, ![4, 1, 1024]⟩
abbrev S4x1024 : Shape := ⟨2, ![4, 1024]⟩
abbrev S1x1024 : Shape := ⟨2, ![1, 1024]⟩

abbrev nBuf : Space → Nat
  | .hbm => 172
  | .vmem => 0
  | .smem => 0
  | _ => 0

abbrev hbmTy0_0 (i : Nat) : BufTy := match i % 128 with
  | 0 => ⟨S4x2048, .i32⟩
  | 1 => ⟨S1024x1024, .f32⟩
  | 2 => ⟨S1024x4096, .f32⟩
  | 3 => ⟨S2048x4, .f32⟩
  | 4 => ⟨S2048, .f32⟩
  | 5 => ⟨S2048x96, .f32⟩
  | 6 => ⟨S64x2048, .f32⟩
  | 7 => ⟨S2048, .f32⟩
  | 8 => ⟨S2048x16, .f32⟩
  | 9 => ⟨S2048, .f32⟩
  | 10 => ⟨S2048x1024, .f32⟩
  | 11 => ⟨S1024x1024, .f32⟩
  | 12 => ⟨S1024, .f32⟩
  | 13 => ⟨S_, .i32⟩
  | 14 => ⟨S4x2048, .i32⟩
  | 15 => ⟨S4x2048, .i1⟩
  | 16 => ⟨S_, .i32⟩
  | 17 => ⟨S4x2048, .i32⟩
  | 18 => ⟨S4x2048, .i32⟩
  | 19 => ⟨S4x2048, .i32⟩
  | 20 => ⟨S4x2048x1, .i32⟩
  | 21 => ⟨S4x2048x1024, .f32⟩
  | 22 => ⟨S4x2048x4096, .f32⟩
  | 23 => ⟨S4x2048x2048, .f32⟩
  | 24 => ⟨S4x2048x2048, .f32⟩
  | 25 => ⟨S_, .i32⟩
  | 26 => ⟨S_, .f32⟩
  | 27 => ⟨S4x2051x2048, .f32⟩
  | 28 => ⟨S4x2048x2048, .f32⟩
  | 29 => ⟨S2048x1, .f32⟩
  | 30 => ⟨S2048, .f32⟩
  | 31 => ⟨S1x1x2048, .f32⟩
  | 32 => ⟨S4x2048x2048, .f32⟩
  | 33 => ⟨S4x2048x2048, .f32⟩
  | 34 => ⟨S_, .f32⟩
  | 35 => ⟨S4x2048x2048, .f32⟩
  | 36 => ⟨S4x2048x2048, .f32⟩
  | 37 => ⟨S4x2048x2048, .f32⟩
  | 38 => ⟨S2048x1, .f32⟩
  | 39 => ⟨S2048, .f32⟩
  | 40 => ⟨S1x1x2048, .f32⟩
  | 41 => ⟨S4x2048x2048, .f32⟩
  | 42 => ⟨S4x2048x2048, .f32⟩
  | 43 => ⟨S4x2048x2048, .f32⟩
  | 44 => ⟨S4x2048x2048, .f32⟩
  | 45 => ⟨S2048x1, .f32⟩
  | 46 => ⟨S2048, .f32⟩
  | 47 => ⟨S1x1x2048, .f32⟩
  | 48 => ⟨S4x2048x2048, .f32⟩
  | 49 => ⟨S4x2048x2048, .f32⟩
  | 50 => ⟨S4x2048x2048, .f32⟩
  | 51 => ⟨S4x2048x2048, .f32⟩
  | 52 => ⟨S2048x1, .f32⟩
  | 53 => ⟨S2048, .f32⟩
  | 54 => ⟨S1x1x2048, .f32⟩
  | 55 => ⟨S4x2048x2048, .f32⟩
  | 56 => ⟨S4x2048x2048, .f32⟩
  | 57 => ⟨S4x2048x2048, .f32⟩
  | 58 => ⟨S1x1x2048, .f32⟩
  | 59 => ⟨S4x2048x2048, .f32⟩
  | 60 => ⟨S4x2048x2048, .f32⟩
  | 61 => ⟨S4x2048x2048, .f32⟩
  | 62 => ⟨S4x2048x2048, .f32⟩
  | 63 => ⟨S_, .f32⟩
  | 64 => ⟨S4x2048x2048, .f32⟩
  | 65 => ⟨S4x2048x2048, .f32⟩
  | 66 => ⟨S_, .f32⟩
  | 67 => ⟨S4x2048x2048, .f32⟩
  | 68 => ⟨S4x2048x2048, .f32⟩
  | 69 => ⟨S4x2048x2048, .f32⟩
  | 70 => ⟨S4x2048x96, .f32⟩
  | 71 => ⟨S4x2048x64, .f32⟩
  | 72 => ⟨S4x2048x16, .f32⟩
  | 73 => ⟨S4x2048x16, .f32⟩
  | 74 => ⟨S4x2048x2048, .f32⟩
  | 75 => ⟨S1x1x2048, .f32⟩
  | 76 => ⟨S4x2048x2048, .f32⟩
  | 77 => ⟨S4x2048x2048, .f32⟩
  | 78 => ⟨S_, .f32⟩
  | 79 => ⟨S4x2048x2048, .f32⟩
  | 80 => ⟨S4x2048x2048, .f32⟩
  | 81 => ⟨S4x2048x2048, .f32⟩
  | 82 => ⟨S4x2048x2048, .f32⟩
  | 83 => ⟨S4x2048x2048, .i1⟩
  | 84 => ⟨S4x2048x2048, .f32⟩
  | 85 => ⟨S4x2048x2048, .f32⟩
  | 86 => ⟨S4x2048x2048, .f32⟩
  | 87 => ⟨S4x2048x2048, .f32⟩
  | 88 => ⟨S4x2048x2048, .f32⟩
  | 89 => ⟨S4x2048x2048, .f32⟩
  | 90 => ⟨S4x2048x2048, .f32⟩
  | 91 => ⟨S4x2048x2048, .f32⟩
  | 92 => ⟨S2048x16, .f32⟩
  | 93 => ⟨S2048x16, .f32⟩
  | 94 => ⟨S_, .f32⟩
  | 95 => ⟨S4x2048x16, .f32⟩
  | 96 => ⟨S2048x4x2048, .f32⟩
  | 97 => ⟨S2048x4x16, .f32⟩
  | 98 => ⟨S2048x4x16, .f32⟩
  | 99 => ⟨S2048x4x2048, .f32⟩
  | 100 => ⟨S_, .f32⟩
  | 101 => ⟨S2048x4x2048, .f32⟩
  | 102 => ⟨S_, .i32⟩
  | 103 => ⟨S2048x4x2048, .f32⟩
  | 104 => ⟨S2048x4x16, .f32⟩
  | 105 => ⟨S2048x4x16, .f32⟩
  | 106 => ⟨S2048x4x2048, .f32⟩
  | 107 => ⟨S2048x16, .f32⟩
  | 108 => ⟨S_, .i32⟩
  | 109 => ⟨S4x2048x16, .f32⟩
  | 110 => ⟨S2048x4x2048, .f32⟩
  | 111 => ⟨S_, .i32⟩
  | 112 => ⟨S_, .i1⟩
  | 113 => ⟨S_, .i32⟩
  | 114 => ⟨S_, .i32⟩
  | 115 => ⟨S1x4x2048, .f32⟩
  | 116 => ⟨S4x2048, .f32⟩
  | 117 => ⟨S_, .i32⟩
  | 118 => ⟨S_, .i32⟩
  | 119 => ⟨S1x4x16, .f32⟩
  | 120 => ⟨S4x16, .f32⟩
  | 121 => ⟨S_, .i32⟩
  | 122 => ⟨S_, .i32⟩
  | 123 => ⟨S1x4x16, .f32⟩
  | 124 => ⟨S4x16, .f32⟩
  | 125 => ⟨S_, .i32⟩
  | 126 => ⟨S_, .i32⟩
  | 127 => ⟨S1x4x2048, .f32⟩
  | _ => ⟨S4x2048, .i32⟩

abbrev hbmTy0_1 (i : Nat) : BufTy := match i % 128 with
  | 0 => ⟨S4x2048, .f32⟩
  | 1 => ⟨S4x2048x1, .f32⟩
  | 2 => ⟨S1x2048x16, .f32⟩
  | 3 => ⟨S4x2048x16, .f32⟩
  | 4 => ⟨S4x2048x16, .f32⟩
  | 5 => ⟨S4x2048x16, .f32⟩
  | 6 => ⟨S4x2048x16, .f32⟩
  | 7 => ⟨S4x2048x16, .f32⟩
  | 8 => ⟨S4x2048, .f32⟩
  | 9 => ⟨S4x2048x1, .f32⟩
  | 10 => ⟨S4x1x16, .f32⟩
  | 11 => ⟨S4x2048x16, .f32⟩
  | 12 => ⟨S4x2048x16, .f32⟩
  | 13 => ⟨S4x2048x16, .f32⟩
  | 14 => ⟨S4x2048x16, .f32⟩
  | 15 => ⟨S4x2048, .f32⟩
  | 16 => ⟨S1x4x2048, .f32⟩
  | 17 => ⟨S_, .i32⟩
  | 18 => ⟨S_, .i32⟩
  | 19 => ⟨S2048x4x2048, .f32⟩
  | 20 => ⟨S_, .i32⟩
  | 21 => ⟨S_, .i32⟩
  | 22 => ⟨S4x2048x2048, .f32⟩
  | 23 => ⟨S1x1x2048, .f32⟩
  | 24 => ⟨S4x2048x2048, .f32⟩
  | 25 => ⟨S4x2048x2048, .f32⟩
  | 26 => ⟨S4x2048x2048, .f32⟩
  | 27 => ⟨S4x2048x2048, .f32⟩
  | 28 => ⟨S4x2048x2048, .f32⟩
  | 29 => ⟨S_, .f32⟩
  | 30 => ⟨S4x2048x2048, .f32⟩
  | 31 => ⟨S4x2048x2048, .f32⟩
  | 32 => ⟨S_, .f32⟩
  | 33 => ⟨S4x2048x2048, .f32⟩
  | 34 => ⟨S4x2048x2048, .f32⟩
  | 35 => ⟨S4x2048x2048, .f32⟩
  | 36 => ⟨S4x2048x2048, .f32⟩
  | 37 => ⟨S4x2048x1024, .f32⟩
  | 38 => ⟨S4x1x1024, .f32⟩
  | 39 => ⟨S4x1024, .f32⟩
  | 40 => ⟨S4x1024, .f32⟩
  | 41 => ⟨S1x1024, .f32⟩
  | 42 => ⟨S4x1024, .f32⟩
  | 43 => ⟨S4x1024, .f32⟩
  | _ => ⟨S4x2048, .i32⟩

abbrev hbmTy (i : Nat) : BufTy := match i / 128 with
  | 0 => hbmTy0_0 i
  | 1 => hbmTy0_1 i
  | _ => ⟨S4x2048, .i32⟩

abbrev bufTy : (tb : Table) → Fin (tcTables nBuf tb) → BufTy
  | .hbm, ⟨i, _⟩ => hbmTy i
  | _, _ => ⟨S4x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_1 : Ref sig .tc := ⟨.hbm, 25, rfl⟩
abbrev main_call0_v0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call2_cst : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_2 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_cst_3 : Ref sig .tc := ⟨.hbm, 100, rfl⟩
abbrev main_v60 : Ref sig .tc := ⟨.hbm, 101, rfl⟩
abbrev main_c_4 : Ref sig .tc := ⟨.hbm, 102, rfl⟩
abbrev main_v61_0 : Ref sig .tc := ⟨.hbm, 103, rfl⟩
abbrev main_v61_1 : Ref sig .tc := ⟨.hbm, 104, rfl⟩
abbrev main_v61_2 : Ref sig .tc := ⟨.hbm, 105, rfl⟩
abbrev main_v61_3 : Ref sig .tc := ⟨.hbm, 106, rfl⟩
abbrev main_v61_4 : Ref sig .tc := ⟨.hbm, 107, rfl⟩
abbrev main_v61_5 : Ref sig .tc := ⟨.hbm, 108, rfl⟩
abbrev main_v61_6 : Ref sig .tc := ⟨.hbm, 109, rfl⟩
abbrev main_v61_7 : Ref sig .tc := ⟨.hbm, 110, rfl⟩
abbrev main_while0c_c_12 : Ref sig .tc := ⟨.hbm, 111, rfl⟩
abbrev main_while0c_v76 : Ref sig .tc := ⟨.hbm, 112, rfl⟩
abbrev main_while0b_call3_c : Ref sig .tc := ⟨.hbm, 113, rfl⟩
abbrev main_while0b_call3_c_0 : Ref sig .tc := ⟨.hbm, 114, rfl⟩
abbrev main_while0b_call3_v0 : Ref sig .tc := ⟨.hbm, 115, rfl⟩
abbrev main_while0b_v76 : Ref sig .tc := ⟨.hbm, 116, rfl⟩
abbrev main_while0b_call4_c : Ref sig .tc := ⟨.hbm, 117, rfl⟩
abbrev main_while0b_call4_c_0 : Ref sig .tc := ⟨.hbm, 118, rfl⟩
abbrev main_while0b_call4_v0 : Ref sig .tc := ⟨.hbm, 119, rfl⟩
abbrev main_while0b_v77 : Ref sig .tc := ⟨.hbm, 120, rfl⟩
abbrev main_while0b_call5_c : Ref sig .tc := ⟨.hbm, 121, rfl⟩
abbrev main_while0b_call5_c_0 : Ref sig .tc := ⟨.hbm, 122, rfl⟩
abbrev main_while0b_call5_v0 : Ref sig .tc := ⟨.hbm, 123, rfl⟩
abbrev main_while0b_v78 : Ref sig .tc := ⟨.hbm, 124, rfl⟩
abbrev main_while0b_call6_c : Ref sig .tc := ⟨.hbm, 125, rfl⟩
abbrev main_while0b_call6_c_0 : Ref sig .tc := ⟨.hbm, 126, rfl⟩
abbrev main_while0b_call6_v0 : Ref sig .tc := ⟨.hbm, 127, rfl⟩
abbrev main_while0b_v79 : Ref sig .tc := ⟨.hbm, 128, rfl⟩
abbrev main_while0b_v80 : Ref sig .tc := ⟨.hbm, 129, rfl⟩
abbrev main_while0b_v81 : Ref sig .tc := ⟨.hbm, 130, rfl⟩
abbrev main_while0b_v82 : Ref sig .tc := ⟨.hbm, 131, rfl⟩
abbrev main_while0b_v83 : Ref sig .tc := ⟨.hbm, 132, rfl⟩
abbrev main_while0b_v84 : Ref sig .tc := ⟨.hbm, 133, rfl⟩
abbrev main_while0b_v85 : Ref sig .tc := ⟨.hbm, 134, rfl⟩
abbrev main_while0b_v86 : Ref sig .tc := ⟨.hbm, 135, rfl⟩
abbrev main_while0b_v87 : Ref sig .tc := ⟨.hbm, 136, rfl⟩
abbrev main_while0b_v88 : Ref sig .tc := ⟨.hbm, 137, rfl⟩
abbrev main_while0b_v89 : Ref sig .tc := ⟨.hbm, 138, rfl⟩
abbrev main_while0b_v90 : Ref sig .tc := ⟨.hbm, 139, rfl⟩
abbrev main_while0b_v91 : Ref sig .tc := ⟨.hbm, 140, rfl⟩
abbrev main_while0b_v92 : Ref sig .tc := ⟨.hbm, 141, rfl⟩
abbrev main_while0b_v93 : Ref sig .tc := ⟨.hbm, 142, rfl⟩
abbrev main_while0b_v94 : Ref sig .tc := ⟨.hbm, 143, rfl⟩
abbrev main_while0b_call7_v0 : Ref sig .tc := ⟨.hbm, 144, rfl⟩
abbrev main_while0b_call7_c : Ref sig .tc := ⟨.hbm, 145, rfl⟩
abbrev main_while0b_call7_c_0 : Ref sig .tc := ⟨.hbm, 146, rfl⟩
abbrev main_while0b_v95 : Ref sig .tc := ⟨.hbm, 147, rfl⟩
abbrev main_while0b_c_12 : Ref sig .tc := ⟨.hbm, 148, rfl⟩
abbrev main_while0b_v96 : Ref sig .tc := ⟨.hbm, 149, rfl⟩
abbrev main_v62 : Ref sig .tc := ⟨.hbm, 150, rfl⟩
abbrev main_v63 : Ref sig .tc := ⟨.hbm, 151, rfl⟩
abbrev main_v64 : Ref sig .tc := ⟨.hbm, 152, rfl⟩
abbrev main_v65 : Ref sig .tc := ⟨.hbm, 153, rfl⟩
abbrev main_v66 : Ref sig .tc := ⟨.hbm, 154, rfl⟩
abbrev main_call8_v0 : Ref sig .tc := ⟨.hbm, 155, rfl⟩
abbrev main_call8_v1 : Ref sig .tc := ⟨.hbm, 156, rfl⟩
abbrev main_call8_cst : Ref sig .tc := ⟨.hbm, 157, rfl⟩
abbrev main_call8_v2 : Ref sig .tc := ⟨.hbm, 158, rfl⟩
abbrev main_call8_v3 : Ref sig .tc := ⟨.hbm, 159, rfl⟩
abbrev main_call8_cst_0 : Ref sig .tc := ⟨.hbm, 160, rfl⟩
abbrev main_call8_v4 : Ref sig .tc := ⟨.hbm, 161, rfl⟩
abbrev main_call8_v5 : Ref sig .tc := ⟨.hbm, 162, rfl⟩
abbrev main_v67 : Ref sig .tc := ⟨.hbm, 163, rfl⟩
abbrev main_v68 : Ref sig .tc := ⟨.hbm, 164, rfl⟩
abbrev main_v69 : Ref sig .tc := ⟨.hbm, 165, rfl⟩
abbrev main_v70 : Ref sig .tc := ⟨.hbm, 166, rfl⟩
abbrev main_v71 : Ref sig .tc := ⟨.hbm, 167, rfl⟩
abbrev main_v72 : Ref sig .tc := ⟨.hbm, 168, rfl⟩
abbrev main_v73 : Ref sig .tc := ⟨.hbm, 169, rfl⟩
abbrev main_v74 : Ref sig .tc := ⟨.hbm, 170, rfl⟩
abbrev main_v75 : Ref sig .tc := ⟨.hbm, 171, rfl⟩

abbrev nD : Nat := 1
abbrev τ : Topo := Topo.v7x

variable {F : FTy → Type} [FloatOps F]

abbrev main_while0_count : Scf.Loop 32 := ⟨0#32, 2048#32, 1#32⟩
-- ==== Proof.Range.lean ====
/-
  The precondition, read token by token: every token is below the number of rows of the embedding table.
-/
module

public import proofs.«01_k».proof.Defs
public import proofs.«01_k».proof.Proof.Gen.Kernel
public import proofs.«01_k».proof.Proof.Gen.KernelIdeal
public import proofs.«01_k».proof.Proof.Gen.ReferenceIdeal

@[expose] public section

noncomputable section

namespace Cert.Range

open Idealize.ShloMosaic Idealize.ShloMosaic.TcCoe

/-- The side condition that the precondition's own operations take. -/
instance facts : Cert.Pre_tokens_in_range.Facts where
  bcast_S_S4x2048 := Cert.ReferenceIdeal.Facts₀.bcast_S_S4x2048

/-- Where the predicate is all ones, every token is below 1024. -/
theorem lt_of_fn {F : FTy → Type} [FloatOps F] (tok : IVec Cert.Pre_tokens_in_range.S4x2048 32) (a1 a2 a3 a4 a5 a6 a7 a8 a9 a10 a11 a12)
    (h : Cert.Pre_tokens_in_range.fn (F := F) tok a1 a2 a3 a4 a5 a6 a7 a8 a9 a10 a11 a12 = fun _ => 1#1) :
    ∀ y, (tok y).toNat < 1024 := by
  have both (p q : Bool) : IntOp.andi (BitVec.ofBool p) (BitVec.ofBool q) = BitVec.ofBool (p && q) := by
    cases p <;> cases q <;> decide
  have one (p : Bool) : (BitVec.ofBool p = 1#1) ↔ p = true := by cases p <;> decide
  intro y
  have e := congrFun h y
  simp only [Cert.Pre_tokens_in_range.fn, andi, cmpi, broadcastInDim, constantI, IntOp.cmpi, both, one, Bool.and_eq_true] at e
  obtain ⟨hge, hlt⟩ := e
  simp only [BitVec.sle, BitVec.slt, decide_eq_true_eq, BitVec.toInt, BitVec.toNat_ofNat] at hge hlt
  omega

/-- Under the precondition the kernel's tokens are below 1024. -/
theorem of_kernel (m : (ℓ : Loc Cert.Kernel.nD Cert.Kernel.τ Cert.Kernel.sig) → Buf (Elt Bits) ℓ) (h : Cert.Pre_Kernel m) (c : Dev Cert.Kernel.nD) :
    ∀ y, (m ((c : Thread Cert.Kernel.nD Cert.Kernel.τ).loc Cert.Kernel.main_arg0) y : BitVec 32).toNat < 1024 :=
  lt_of_fn _ _ _ _ _ _ _ _ _ _ _ _ _ (h c)

/-- Under the precondition the idealized kernel's tokens are below 1024. -/
theorem of_kernelIdeal (m : (ℓ : Loc Cert.KernelIdeal.nD Cert.KernelIdeal.τ Cert.KernelIdeal.sig) → Buf (Elt Ideal) ℓ) (h : Cert.Pre_KernelIdeal m)
    (c : Dev Cert.KernelIdeal.nD) :
    ∀ y, (m ((c : Thread Cert.KernelIdeal.nD Cert.KernelIdeal.τ).loc Cert.KernelIdeal.main_arg0) y : BitVec 32).toNat < 1024 :=
  lt_of_fn _ _ _ _ _ _ _ _ _ _ _ _ _ (h c)

end Cert.Range

end
-- ==== Proof.KernelIdeal.Loop.lean ====
/-
  The scan kernel's gathering loop: thirty-two trips, each of which copies eight rows of the projected embedding table
  into the window of the 264-row scratch that follows its first eight rows.
-/
module

public import proofs.«01_k».proof.Proof.Gen.KernelIdeal.Points
public import proofs.«01_k».proof.Proof.Gen.KernelIdeal.Loops
public import Idealize.ShloMosaic.Lib.VecWindow
public import Idealize.ShloMosaic.Lib.Exec
public import Idealize.ShloMosaic.Lib.Tactic
public import Idealize.ShloMosaic.Lib.ValueIdx
public import Idealize.ShloMosaic.Lib.Pipeline.Value

@[expose] public section

set_option maxRecDepth 16384

noncomputable section

namespace Cert.KernelIdeal.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Row number `v` of the table `eg`, at column `d`. -/
def tabRow (eg : FVec F S1024x1x2048 .f32) (v : BitVec 32) (d : Fin 2048) : F .f32 :=
  eg (ix3 ⟨v.toNat % 1024, Nat.mod_lt _ (by decide)⟩ 0 d)

/-- The word of batch `i 0` at position `256 c + n`, for the chunk `c = i 1`. -/
def word (tok : IVec S4x2048 32) (i : grid1.Coords) (n : ℕ) : BitVec 32 :=
  tok (ix2 (i 0) ⟨(256 * (i 1).val + n) % 2048, Nat.mod_lt _ (by decide)⟩)

/-- The scratch with `n` rows gathered: rows `8 ≤ r < 8 + n` hold the table's rows for the chunk's tokens number `r - 8`,
the other rows what they held before. -/
def gath (tok : IVec S4x2048 32) (eg : FVec F S1024x1x2048 .f32) (i : grid1.Coords) (g : FVec F S264x1x2048 .f32) (n : ℕ) :
    FVec F S264x1x2048 .f32 := fun y =>
  if 8 ≤ (y 0).val ∧ (y 0).val < 8 + n then tabRow eg (word tok i ((y 0).val - 8)) (y 2) else g y

/-- With no row gathered the scratch holds what it held. -/
theorem gath_zero (tok : IVec S4x2048 32) (eg : FVec F S1024x1x2048 .f32) (i : grid1.Coords) (g : FVec F S264x1x2048 .f32) :
    gath tok eg i g 0 = g := by
  funext y
  exact if_neg (by omega)

/-- A word below the table's height passes the row check. -/
theorem chk_of_lt {v : BitVec 32} (h : v.toNat < 1024) : k1_chk1 v := by
  intro a
  fin_cases a
  · show v.toNat + 1 ≤ 1024
    omega
  · show 0 + 1 ≤ 1
    omega
  · show 0 + 2048 ≤ 2048
    omega

/-- One more row gathered: a store of row `n + 8` that holds the table's row for token number `n`. -/
theorem read_gath_succ (v : View sig .tc .vmem S264x1x2048 .f32) (f : v.ty.Contents (Elt F)) (tok : IVec S4x2048 32)
    (eg : FVec F S1024x1x2048 .f32) (i : grid1.Coords) (g : FVec F S264x1x2048 .f32) (n : ℕ) {off : Fin 3 → ℕ}
    (inb : ∀ a, off a + S1x1x2048.size a ≤ S264x1x2048.size a)
    (w : (Rect.unit (s := S264x1x2048) off S1x1x2048.size inb).shape.Idx → F .f32)
    (L : List (View.Piece (Elt F) S264x1x2048 .f32)) (hoff : off = ![8 + n, 0, 0])
    (hw : w = fun y => tabRow eg (word tok i n) (y 2))
    (hL : v.read (Elt F) (v.writes (Elt F) f L) = gath tok eg i g n) :
    v.read (Elt F) (v.writes (Elt F) f (⟨Rect.unit off S1x1x2048.size inb, w⟩ :: L)) = gath tok eg i g (n + 1) := by
  funext y
  rw [View.read_writes_cons_unit v f inb w L y hoff]
  have h2 : (y 2).val < 2048 := (y 2).isLt
  have h1 : (y 1).val < 1 := (y 1).isLt
  by_cases h : (y 0).val = 8 + n
  · have hh : ∀ a : Fin 3, (![8 + n, 0, 0] : Fin 3 → ℕ) a ≤ (y a).val ∧ (y a).val < (![8 + n, 0, 0] : Fin 3 → ℕ) a + S1x1x2048.size a := by
      intro a
      fin_cases a
      · exact ⟨h.ge, h.trans_lt (Nat.lt_succ_self _)⟩
      · exact ⟨Nat.zero_le _, h1⟩
      · exact ⟨Nat.zero_le _, by show (y 2).val < 0 + 2048; omega⟩
    rw [dif_pos hh, hw]
    unfold gath
    rw [if_pos ⟨by omega, by omega⟩, show (y 0).val - 8 = n by omega]
    exact congrArg (tabRow eg (word tok i n)) (Fin.ext (Nat.sub_zero _))
  · have hh : ¬ ∀ a : Fin 3, (![8 + n, 0, 0] : Fin 3 → ℕ) a ≤ (y a).val ∧ (y a).val < (![8 + n, 0, 0] : Fin 3 → ℕ) a + S1x1x2048.size a := fun hall => by
      have := hall 0
      have e1 : (8 + n : ℕ) ≤ (y 0).val := this.1
      have e2 : (y 0).val < 8 + n + 1 := this.2
      omega
    rw [dif_neg hh, hL]
    unfold gath
    by_cases h8 : 8 ≤ (y 0).val ∧ (y 0).val < 8 + n
    · rw [if_pos h8, if_pos ⟨h8.1, by omega⟩]
    · rw [if_neg h8, if_neg (by omega)]

/-- A row of the table, loaded at a word's row and reshaped there and back, holds the table's row of that word. -/
theorem row_val (v : View sig .tc .vmem S1024x1x2048 .f32) (fe : v.ty.Contents (Elt F)) (x : BitVec 32) (hx : x.toNat < 1024)
    {off : Fin 3 → ℕ} (inb : ∀ a, off a + S1x1x2048.size a ≤ S1024x1x2048.size a) (hoff : off = ![x.toNat, 0, 0])
    (h : S1x1x2048.ShapeCasts S1x2048) (h' : S1x2048.ShapeCasts S1x1x2048) :
    shapeCast S1x1x2048 (shapeCast S1x2048 (v.readAt (Elt F) (Rect.unit (s := S1024x1x2048) off S1x1x2048.size inb).toLoadRect fe) h) h'
      = fun y => tabRow (v.read (Elt F) fe) x (y 2) := by
  rw [shapeCast_shapeCast]
  subst hoff
  funext y
  refine congrArg (v.read (Elt F) fe) (funext fun a => Fin.ext ?_)
  have h0 : (y 0).val < 1 := (y 0).isLt
  have h1 : (y 1).val < 1 := (y 1).isLt
  match a with
  | ⟨0, _⟩ =>
    show x.toNat + 1 * (y 0).val = x.toNat % 1024
    rw [Nat.mod_eq_of_lt hx]
    omega
  | ⟨1, _⟩ =>
    show 0 + 1 * (y 1).val = 0
    omega
  | ⟨2, _⟩ =>
    show 0 + 1 * (y 2).val = (y 2).val
    omega

/-- The word loaded for row `n` of the chunk is the token there. -/
theorem word_val (v : View sig .tc .smem S4x2048 .i32) (ft : v.ty.Contents (Elt F)) (i : grid1.Coords) (n : ℕ) (hn : n < 256)
    {off : Fin 2 → ℕ} (inb : ∀ a, off a + S1x1.size a ≤ S4x2048.size a) (hoff : off = ![(i 0).val, 256 * (i 1).val + n])
    (y : S1x1.Idx) :
    v.readAt (Elt F) (Rect.unit (s := S4x2048) off S1x1.size inb).toLoadRect ft y = word (v.read (Elt F) ft) i n := by
  subst hoff
  refine congrArg (v.read (Elt F) ft) (funext fun a => Fin.ext ?_)
  have h0 : (y 0).val < 1 := (y 0).isLt
  have h1 : (y 1).val < 1 := (y 1).isLt
  have hi : (i 1).val < 8 := (i 1).isLt
  match a with
  | ⟨0, _⟩ =>
    show (i 0).val + 1 * (y 0).val = (i 0).val
    omega
  | ⟨1, _⟩ =>
    show 256 * (i 1).val + n + 1 * (y 1).val = (256 * (i 1).val + n) % 2048
    omega

variable (c : Dev nD) (i : grid1.Coords) (arg2 : Memref sig .tc .smem S4x2048 .i32) (harg2 : arg2.IsWhole) (arg3 : Memref sig .tc .vmem S1024x1x2048 .f32) (harg3 : arg3.IsWhole) (arg4 : Memref sig .tc .vmem S4x1x2048 .f32) (harg4 : arg4.IsWhole) (arg5 : Memref sig .tc .vmem S1x1x2048 .f32) (harg5 : arg5.IsWhole) (arg6 : Memref sig .tc .vmem S2048x96 .f32) (harg6 : arg6.IsWhole) (arg7 : Memref sig .tc .vmem S64x2048 .f32) (harg7 : arg7.IsWhole) (arg8 : Memref sig .tc .vmem S1x2048 .f32) (harg8 : arg8.IsWhole) (arg9 : Memref sig .tc .vmem S16x2048 .f32) (harg9 : arg9.IsWhole) (arg10 : Memref sig .tc .vmem S1x16x2048 .f32) (harg10 : arg10.IsWhole) (arg11 : Memref sig .tc .vmem S1x1x2048 .f32) (harg11 : arg11.IsWhole) (arg12 : Memref sig .tc .vmem S264x1x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S256x2048 .f32) (harg15 : arg15.IsWhole) (arg16 : Memref sig .tc .vmem S256x2048 .f32) (harg16 : arg16.IsWhole) (arg17 : Memref sig .tc .vmem S16x2048 .f32) (harg17 : arg17.IsWhole) (arg0 : BitVec 32) (arg1 : BitVec 32)
  (ft : arg2.view.ty.Contents (Elt F)) (htok : ∀ y, BitVec.toNat (arg2.view.read (Elt F) ft y) < 1024)
  (fe : arg3.view.ty.Contents (Elt F))

include htok in
/-- One trip gathers eight more rows and keeps the tokens and the table. -/
theorem trip (k : Fin k1_t1_loop.trips) (f : arg12.view.ty.Contents (Elt F)) :
    (iprop((arg2.view.loc (c : Thread nD τ) ↦[arg2.view.set]{fullShare} ft) ∗ (arg3.view.loc (c : Thread nD τ) ↦[arg3.view.set]{fullShare} fe)
      ∗ (arg12.view.loc (c : Thread nD τ) ↦[arg12.view.set]{fullShare} f)) : sProp 𝕄)
    ⊢ wp Idealize.ShloMosaic.frame (wpE defs₀ Variants.none (c : Thread nD τ) none) Set.univ
        (Gen.k1_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 arg1 k ⟨⟩)
        (fun _ => iprop((arg2.view.loc (c : Thread nD τ) ↦[arg2.view.set]{fullShare} ft) ∗ (arg3.view.loc (c : Thread nD τ) ↦[arg3.view.set]{fullShare} fe)
          ∗ ∃ f', (arg12.view.loc (c : Thread nD τ) ↦[arg12.view.set]{fullShare} f') ∗ ⌜∀ g, arg12.view.read (Elt F) f = gath (arg2.view.read (Elt F) ft) (arg3.view.read (Elt F) fe) i g (8 * k.val) → arg12.view.read (Elt F) f' = gath (arg2.view.read (Elt F) ft) (arg3.view.read (Elt F) fe) i g (8 * (k.val + 1))⌝)) := by
  unfold Gen.k1_t1_body
  iintro ⟨H2, H3, H12⟩
  sl_exec_parts (disch := exact chk_of_lt (htok _))
  sl_step
  isplitl [H2]; · iexact H2
  isplitl [H3]; · iexact H3
  iexists _
  isplitl [H12]; · iexact H12
  ipureintro
  intro g hg
  have hk : k.val < 32 := k.isLt
  have hrow : ∀ (x : BitVec 32) (n : ℕ), x = word (arg2.view.read (Elt F) ft) i n → x.toNat < 1024 := fun x n h => h ▸ htok _
  refine read_gath_succ _ _ _ _ _ _ (8 * k.val + 7) (k1_off24_inb k) _ _ ((k1_off24_eq k).trans ?o7) ?w7 ?_
  case o7 => exact congrArg (fun n : ℕ => (![n, 0, 0] : Fin 3 → ℕ)) (by omega)
  case w7 =>
    have hv := word_val arg2.view ft i (8 * k.val + 7) (by omega) (k1_off22_inb i k) ((k1_off22_eq i k).trans (congrArg (fun n : ℕ => (![(i 0).val, n] : Fin 2 → ℕ)) (by omega))) (Shape.Idx.first (by decide))
    exact hv ▸ row_val arg3.view fe _ (hrow _ _ hv) _ rfl _ _
  refine read_gath_succ _ _ _ _ _ _ (8 * k.val + 6) (k1_off21_inb k) _ _ ((k1_off21_eq k).trans ?o6) ?w6 ?_
  case o6 => exact congrArg (fun n : ℕ => (![n, 0, 0] : Fin 3 → ℕ)) (by omega)
  case w6 =>
    have hv := word_val arg2.view ft i (8 * k.val + 6) (by omega) (k1_off19_inb i k) ((k1_off19_eq i k).trans (congrArg (fun n : ℕ => (![(i 0).val, n] : Fin 2 → ℕ)) (by omega))) (Shape.Idx.first (by decide))
    exact hv ▸ row_val arg3.view fe _ (hrow _ _ hv) _ rfl _ _
  refine read_gath_succ _ _ _ _ _ _ (8 * k.val + 5) (k1_off18_inb k) _ _ ((k1_off18_eq k).trans ?o5) ?w5 ?_
  case o5 => exact congrArg (fun n : ℕ => (![n, 0, 0] : Fin 3 → ℕ)) (by omega)
  case w5 =>
    have hv := word_val arg2.view ft i (8 * k.val + 5) (by omega) (k1_off16_inb i k) ((k1_off16_eq i k).trans (congrArg (fun n : ℕ => (![(i 0).val, n] : Fin 2 → ℕ)) (by omega))) (Shape.Idx.first (by decide))
    exact hv ▸ row_val arg3.view fe _ (hrow _ _ hv) _ rfl _ _
  refine read_gath_succ _ _ _ _ _ _ (8 * k.val + 4) (k1_off15_inb k) _ _ ((k1_off15_eq k).trans ?o4) ?w4 ?_
  case o4 => exact congrArg (fun n : ℕ => (![n, 0, 0] : Fin 3 → ℕ)) (by omega)
  case w4 =>
    have hv := word_val arg2.view ft i (8 * k.val + 4) (by omega) (k1_off13_inb i k) ((k1_off13_eq i k).trans (congrArg (fun n : ℕ => (![(i 0).val, n] : Fin 2 → ℕ)) (by omega))) (Shape.Idx.first (by decide))
    exact hv ▸ row_val arg3.view fe _ (hrow _ _ hv) _ rfl _ _
  refine read_gath_succ _ _ _ _ _ _ (8 * k.val + 3) (k1_off12_inb k) _ _ ((k1_off12_eq k).trans ?o3) ?w3 ?_
  case o3 => exact congrArg (fun n : ℕ => (![n, 0, 0] : Fin 3 → ℕ)) (by omega)
  case w3 =>
    have hv := word_val arg2.view ft i (8 * k.val + 3) (by omega) (k1_off10_inb i k) ((k1_off10_eq i k).trans (congrArg (fun n : ℕ => (![(i 0).val, n] : Fin 2 → ℕ)) (by omega))) (Shape.Idx.first (by decide))
    exact hv ▸ row_val arg3.view fe _ (hrow _ _ hv) _ rfl _ _
  refine read_gath_succ _ _ _ _ _ _ (8 * k.val + 2) (k1_off9_inb k) _ _ ((k1_off9_eq k).trans ?o2) ?w2 ?_
  case o2 => exact congrArg (fun n : ℕ => (![n, 0, 0] : Fin 3 → ℕ)) (by omega)
  case w2 =>
    have hv := word_val arg2.view ft i (8 * k.val + 2) (by omega) (k1_off7_inb i k) ((k1_off7_eq i k).trans (congrArg (fun n : ℕ => (![(i 0).val, n] : Fin 2 → ℕ)) (by omega))) (Shape.Idx.first (by decide))
    exact hv ▸ row_val arg3.view fe _ (hrow _ _ hv) _ rfl _ _
  refine read_gath_succ _ _ _ _ _ _ (8 * k.val + 1) (k1_off6_inb k) _ _ ((k1_off6_eq k).trans ?o1) ?w1 ?_
  case o1 => exact congrArg (fun n : ℕ => (![n, 0, 0] : Fin 3 → ℕ)) (by omega)
  case w1 =>
    have hv := word_val arg2.view ft i (8 * k.val + 1) (by omega) (k1_off4_inb i k) ((k1_off4_eq i k).trans (congrArg (fun n : ℕ => (![(i 0).val, n] : Fin 2 → ℕ)) (by omega))) (Shape.Idx.first (by decide))
    exact hv ▸ row_val arg3.view fe _ (hrow _ _ hv) _ rfl _ _
  refine read_gath_succ _ _ _ _ _ _ (8 * k.val + 0) (k1_off3_inb k) _ _ ((k1_off3_eq k).trans ?o0) ?w0 ?_
  case o0 => exact congrArg (fun n : ℕ => (![n, 0, 0] : Fin 3 → ℕ)) (by omega)
  case w0 =>
    have hv := word_val arg2.view ft i (8 * k.val + 0) (by omega) (k1_off1_inb i k) ((k1_off1_eq i k).trans (congrArg (fun n : ℕ => (![(i 0).val, n] : Fin 2 → ℕ)) (by omega))) (Shape.Idx.first (by decide))
    exact hv ▸ row_val arg3.view fe _ (hrow _ _ hv) _ rfl _ _
  exact hg

/-- The loop's invariant: the tokens and the table unchanged, `8 k` rows gathered before trip `k`. -/
abbrev invG (g : FVec F S264x1x2048 .f32) (k : ℕ) : sProp 𝕄 :=
  iprop((arg2.view.loc (c : Thread nD τ) ↦[arg2.view.set]{fullShare} ft) ∗ (arg3.view.loc (c : Thread nD τ) ↦[arg3.view.set]{fullShare} fe)
    ∗ ∃ f, (arg12.view.loc (c : Thread nD τ) ↦[arg12.view.set]{fullShare} f) ∗ ⌜arg12.view.read (Elt F) f = gath (arg2.view.read (Elt F) ft) (arg3.view.read (Elt F) fe) i g (8 * k)⌝)

/-- The gathering loop's invariant, kept by each trip. -/
@[sl_loop, instance_reducible] def loopInv_k1_t1 (g : FVec F S264x1x2048 .f32) :
    Gen.LoopInvTy_k1_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 arg1 where
  inv := fun k _ => invG c i arg2 arg3 arg12 ft fe g k
  step := fun k acc => by
    unfold invG
    iintro ⟨H2, H3, ⟨%f, H12, %hf⟩⟩
    iapply (wp_wand_r Idealize.ShloMosaic.frame (wpE defs₀ Variants.none (c : Thread nD τ) none) Set.univ)
    isplitl [H2 H3 H12]
    · iapply (trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 arg1 ft htok fe k f)
      isplitl [H2]; · iexact H2
      isplitl [H3]; · iexact H3
      iexact H12
    · iintro %y ⟨H2, H3, ⟨%f', H12, %hf'⟩⟩
      isplitl [H2]; · iexact H2
      isplitl [H3]; · iexact H3
      iexists f'
      isplitl [H12]; · iexact H12
      ipureintro
      exact hf' g hf

end Cert.KernelIdeal.Proof
-- ==== Proof.KernelIdeal.Step.lean ====
/-
  One grid point of the scan kernel: what its body computes from the blocks, the carried tail of the convolution and the
  carried state, and that it leaves just that in the outputs and the scratches.
-/
module

public import proofs.«01_k».proof.Proof.KernelIdeal.Loop
public import Idealize.ShloMosaic.Lib.Pipeline.FrameBody
public import Idealize.ShloMosaic.Lib.Pipeline.Kit

@[expose] public section

set_option maxRecDepth 16384

noncomputable section

namespace Cert.KernelIdeal.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What one point computes -/

/-- The rows `o, …, o + 255` of the scratch. -/
def rowsAt (o : ℕ) (ho : o + 256 ≤ 264) (G : FVec F S264x1x2048 .f32) : FVec F S256x1x2048 .f32 :=
  VecWindow.window (s := S264x1x2048) G ![o, 0, 0] S256x1x2048.size (fun a => by
    fin_cases a
    · exact ho
    · exact Nat.le_refl 1
    · exact Nat.le_refl 2048)

/-- Row `j` of the convolution's weights. -/
def tap (j : ℕ) (hj : j + 1 ≤ 4) (cw : FVec F S4x1x2048 .f32) : FVec F S1x1x2048 .f32 :=
  VecWindow.window (s := S4x1x2048) cw ![j, 0, 0] S1x1x2048.size (fun a => by
    fin_cases a
    · exact hj
    · exact Nat.le_refl 1
    · exact Nat.le_refl 2048)

/-- The chunk's convolution, bias and silu, from the scratch with its 256 rows gathered. -/
def xcOf (cw : FVec F S4x1x2048 .f32) (cb : FVec F S1x1x2048 .f32) (G : FVec F S264x1x2048 .f32) : FVec F S256x2048 .f32 :=
  k1_pay16 (k1_pay15 cb (rowsAt 5 (by decide) G) (tap 0 (by decide) cw) (rowsAt 6 (by decide) G) (tap 1 (by decide) cw)
    (rowsAt 7 (by decide) G) (tap 2 (by decide) cw)) (rowsAt 8 (by decide) G) (tap 3 (by decide) cw)

/-- The scratch's last three rows copied to its rows 5, 6, 7. -/
def tailOf (G : FVec F S264x1x2048 .f32) : FVec F S264x1x2048 .f32 :=
  VecWindow.put (s := S264x1x2048) G ![5, 0, 0] S3x1x2048.size (k1_pay17 (VecWindow.window (s := S264x1x2048) G ![261, 0, 0]
    S3x1x2048.size Gen.inb_S264x1x2048_S3x1x2048_261_0_0))

/-- The scratch with its rows 5, 6, 7 cleared. -/
def clearOf (g : FVec F S264x1x2048 .f32) : FVec F S264x1x2048 .f32 :=
  VecWindow.put (s := S264x1x2048) g ![5, 0, 0] S3x1x2048.size k1_pay12

/-- The chunk's step sizes. -/
def deltaOf (xp : FVec F S2048x96 .f32) (dw : FVec F S64x2048 .f32) (db : FVec F S1x2048 .f32) (x : FVec F S256x2048 .f32) :
    FVec F S256x2048 .f32 :=
  k1_pay26 (k1_pay20 x xp dw db) (k1_pay22 x xp dw db) (k1_pay23 x xp dw db) (k1_pay24 x xp dw db)

/-- The chunk's step sizes times its inputs. -/
def inpOf (xp : FVec F S2048x96 .f32) (dw : FVec F S64x2048 .f32) (db : FVec F S1x2048 .f32) (x : FVec F S256x2048 .f32) :
    FVec F S256x2048 .f32 :=
  k1_pay27 x (k1_pay20 x xp dw db) (k1_pay22 x xp dw db) (k1_pay23 x xp dw db) (k1_pay24 x xp dw db)

/-- The sums of the step sizes that follow within the chunk. -/
def restOf (xp : FVec F S2048x96 .f32) (dw : FVec F S64x2048 .f32) (db : FVec F S1x2048 .f32) (x : FVec F S256x2048 .f32) :
    FVec F S256x2048 .f32 :=
  k1_pay28 (k1_pay20 x xp dw db) (k1_pay22 x xp dw db) (k1_pay23 x xp dw db) (k1_pay24 x xp dw db)

/-- A block's first row. -/
def firstRow (x : FVec F S256x2048 .f32) : FVec F S1x2048 .f32 :=
  VecWindow.window (s := S256x2048) x ![0, 0] S1x2048.size Gen.inb_S256x2048_S1x2048_0_0

/-- A block's last row. -/
def lastRow (x : FVec F S256x2048 .f32) : FVec F S1x2048 .f32 :=
  VecWindow.window (s := S256x2048) x ![255, 0] S1x2048.size Gen.inb_S256x2048_S1x2048_255_0

/-- The state after the chunk from the state before it, over the chunk's projections `p`, sums `r`, step sizes `d` and
inputs `u`. -/
def advance (al : FVec F S16x2048 .f32) (p : FVec F S256x96 .f32) (r d u : FVec F S256x2048 .f32) (h : FVec F S16x2048 .f32) :
    FVec F S16x2048 .f32 :=
  k1_pay1 (k1_pay45 p (k1_pay29 al) (k1_pay30 (firstRow r) (firstRow d) al) r u (k1_pay33 (k1_pay31 al r u) (k1_pay32 p))
    (k1_pay34 p (k1_pay29 al) r u) (k1_pay35 p (k1_pay29 al) r u) (k1_pay36 p (k1_pay29 al) r u)
    (k1_pay37 p (k1_pay29 al) r u) (k1_pay38 p (k1_pay29 al) r u) (k1_pay39 p (k1_pay29 al) r u)
    (k1_pay40 p (k1_pay29 al) r u) (k1_pay41 p (k1_pay29 al) r u) (k1_pay42 p (k1_pay29 al) r u)
    (k1_pay43 p (k1_pay29 al) r u) (k1_pay44 (k1_pay29 al) r u) h)

/-- The state after the chunk, from its convolved inputs. -/
def stateOf (xp : FVec F S2048x96 .f32) (dw : FVec F S64x2048 .f32) (db : FVec F S1x2048 .f32) (al : FVec F S16x2048 .f32)
    (x : FVec F S256x2048 .f32) (h : FVec F S16x2048 .f32) : FVec F S16x2048 .f32 :=
  advance al (k1_pay18 x xp) (restOf xp dw db x) (deltaOf xp dw db x) (inpOf xp dw db x) h

/-- A load of a window after a store of the whole buffer reads that window of what was stored. -/
theorem readCov_window {κ : Kind} {sp : Space} {s : Shape} {e : EltTy} (v : View sig κ sp s e) {off off' size : Fin s.rank → ℕ}
    (inb : ∀ a, off a + size a ≤ s.size a) (inb' : ∀ a, off' a + s.size a ≤ s.size a)
    (w : (Rect.unit off' s.size inb').shape.Idx → Elt F e) (L : List (View.Piece (Elt F) s e)) :
    v.readCov (⟨Rect.unit off' s.size inb', w⟩ :: L) (Rect.unit off size inb).toLoadRect = VecWindow.window w off size inb := by
  show VecWindow.window (v.read (Elt F) (v.writes (Elt F) v.junk (⟨Rect.unit off' s.size inb', w⟩ :: L))) off size inb = _
  rw [View.read_writes_full]

/-! ## The body -/

variable (c : Dev nD) (i : grid1.Coords) (arg2 : Memref sig .tc .smem S4x2048 .i32) (harg2 : arg2.IsWhole) (arg3 : Memref sig .tc .vmem S1024x1x2048 .f32) (harg3 : arg3.IsWhole) (arg4 : Memref sig .tc .vmem S4x1x2048 .f32) (harg4 : arg4.IsWhole) (arg5 : Memref sig .tc .vmem S1x1x2048 .f32) (harg5 : arg5.IsWhole) (arg6 : Memref sig .tc .vmem S2048x96 .f32) (harg6 : arg6.IsWhole) (arg7 : Memref sig .tc .vmem S64x2048 .f32) (harg7 : arg7.IsWhole) (arg8 : Memref sig .tc .vmem S1x2048 .f32) (harg8 : arg8.IsWhole) (arg9 : Memref sig .tc .vmem S16x2048 .f32) (harg9 : arg9.IsWhole) (arg10 : Memref sig .tc .vmem S1x16x2048 .f32) (harg10 : arg10.IsWhole) (arg11 : Memref sig .tc .vmem S1x1x2048 .f32) (harg11 : arg11.IsWhole) (arg12 : Memref sig .tc .vmem S264x1x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S256x2048 .f32) (harg15 : arg15.IsWhole) (arg16 : Memref sig .tc .vmem S256x2048 .f32) (harg16 : arg16.IsWhole) (arg17 : Memref sig .tc .vmem S16x2048 .f32) (harg17 : arg17.IsWhole)

set_option maxHeartbeats 1000000 in
/-- A point of a later chunk: the body carries the tail and the state on. -/
theorem sound1_pos (hc : ¬ (Scalar.cmpi .ne (Scalar.extui (Scalar.cmpi .eq (BitVec.ofNat 32 (i 1).val) 0#32) : BitVec 32) 0#32 = 1#1))
    (tok : IVec S4x2048 32) (eg : FVec F S1024x1x2048 .f32) (cw : FVec F S4x1x2048 .f32) (cb : FVec F S1x1x2048 .f32)
    (xp : FVec F S2048x96 .f32) (dw : FVec F S64x2048 .f32) (db : FVec F S1x2048 .f32) (al : FVec F S16x2048 .f32)
    (g : FVec F S264x1x2048 .f32) (h : FVec F S16x2048 .f32) (htok : ∀ y, (tok y).toNat < 1024)
    (K : PUnit → sProp 𝕄) :
    iprop(owns (c : Thread nD τ) arg2 fullShare tok ∗ owns (c : Thread nD τ) arg3 fullShare eg ∗ owns (c : Thread nD τ) arg4 fullShare cw ∗ owns (c : Thread nD τ) arg5 fullShare cb ∗ owns (c : Thread nD τ) arg6 fullShare xp ∗ owns (c : Thread nD τ) arg7 fullShare dw ∗ owns (c : Thread nD τ) arg8 fullShare db ∗ owns (c : Thread nD τ) arg9 fullShare al ∗ (∃ d, owns (c : Thread nD τ) arg10 fullShare d) ∗ (∃ d, owns (c : Thread nD τ) arg11 fullShare d) ∗ owns (c : Thread nD τ) arg12 fullShare g ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare h
      ∗ ((owns (c : Thread nD τ) arg2 fullShare tok ∗ owns (c : Thread nD τ) arg3 fullShare eg ∗ owns (c : Thread nD τ) arg4 fullShare cw ∗ owns (c : Thread nD τ) arg5 fullShare cb ∗ owns (c : Thread nD τ) arg6 fullShare xp ∗ owns (c : Thread nD τ) arg7 fullShare dw ∗ owns (c : Thread nD τ) arg8 fullShare db ∗ owns (c : Thread nD τ) arg9 fullShare al ∗ owns (c : Thread nD τ) arg10 fullShare (k1_pay2 (stateOf xp dw db al (xcOf cw cb (gath tok eg i g 256)) h)) ∗ owns (c : Thread nD τ) arg11 fullShare (k1_pay3 (lastRow (xcOf cw cb (gath tok eg i g 256)))) ∗ owns (c : Thread nD τ) arg12 fullShare (tailOf (gath tok eg i g 256)) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare (stateOf xp dw db al (xcOf cw cb (gath tok eg i g 256)) h)) -∗ K ⟨⟩))
    ⊢ wp Idealize.ShloMosaic.frame (wpE defs₀ Variants.none (c : Thread nD τ) none) Set.univ
        (cc1__main_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1__main_kernel_eq_skeleton]
  unfold cc1__main_kernel_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%d10, %f10, %e10, H10⟩, ⟨%d11, %f11, %e11, H11⟩, ⟨%f12, %e12, H12⟩, ⟨%d13, %f13, %e13, H13⟩, ⟨%d14, %f14, %e14, H14⟩, ⟨%d15, %f15, %e15, H15⟩, ⟨%d16, %f16, %e16, H16⟩, ⟨%f17, %e17, H17⟩, Hk⟩
  subst e2 e3 e4 e5 e6 e7 e8 e9 e12 e17
  have hz : arg12.view.read (Elt F) f12 = gath (arg2.view.read (Elt F) f2) (arg3.view.read (Elt F) f3) i (arg12.view.read (Elt F) f12) (8 * 0) := (gath_zero _ _ _ _).symm
  let I := loopInv_k1_t1 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 0).val) (BitVec.ofNat 32 (i 1).val) f2 htok f3 (arg12.view.read (Elt F) f12)
  sl_exec (disch := exact hc)
  sl_step
  have hG : arg12.view.read (Elt F) fL0 = gath (arg2.view.read (Elt F) f2) (arg3.view.read (Elt F) f3) i (arg12.view.read (Elt F) f12) 256 := by assumption
  iapply Hk
  isplitl [H2]
  · iexists f2; isplitr [H2]; swap; · iexact H2
    ipureintro; rfl
  isplitl [H3]
  · iexists f3; isplitr [H3]; swap; · iexact H3
    ipureintro; rfl
  isplitl [H4]
  · iexists f4; isplitr [H4]; swap; · iexact H4
    ipureintro; rfl
  isplitl [H5]
  · iexists f5; isplitr [H5]; swap; · iexact H5
    ipureintro; rfl
  isplitl [H6]
  · iexists f6; isplitr [H6]; swap; · iexact H6
    ipureintro; rfl
  isplitl [H7]
  · iexists f7; isplitr [H7]; swap; · iexact H7
    ipureintro; rfl
  isplitl [H8]
  · iexists f8; isplitr [H8]; swap; · iexact H8
    ipureintro; rfl
  isplitl [H9]
  · iexists f9; isplitr [H9]; swap; · iexact H9
    ipureintro; rfl
  isplitl [H10]
  · iexists _; isplitr [H10]; swap; · iexact H10
    ipureintro
    repeat delta sound1_pos.sl.v82 sound1_pos.sl.r_6 sound1_pos.sl.H13_1 sound1_pos.sl.H17_1 sound1_pos.sl.r_22 sound1_pos.sl.r_18 sound1_pos.sl.r_7 sound1_pos.sl.H15_1 sound1_pos.sl.v1 sound1_pos.sl.r_20 sound1_pos.sl.r_17 sound1_pos.sl.r_9 sound1_pos.sl.r_15 sound1_pos.sl.v41 sound1_pos.sl.v0 sound1_pos.sl.v2 sound1_pos.sl.r_8 sound1_pos.sl.r_2 sound1_pos.sl.r_13 sound1_pos.sl.r_10 sound1_pos.sl.v265 sound1_pos.sl.r_23 sound1_pos.sl.r_16 sound1_pos.sl.r_21 sound1_pos.sl.v81 sound1_pos.sl.v92 sound1_pos.sl.r_11 sound1_pos.sl.r_1 sound1_pos.sl.r_5 sound1_pos.sl.r_3 sound1_pos.sl.v261 sound1_pos.sl.r_14 sound1_pos.sl.H14_1 sound1_pos.sl.r_4 sound1_pos.sl.r_19 sound1_pos.sl.r sound1_pos.sl.v93 sound1_pos.sl.H16_1 sound1_pos.sl.r_12
    rw [View.read_writes_full]
    try rw [View.readCov_full arg17.view]
    first | rw [View.readCov_full arg13.view] | rw [readCov_window arg13.view]
    try rw [View.readAt_full arg6.view, View.readAt_full arg7.view, View.readAt_full arg8.view, View.readAt_full arg9.view]
    rw [View.readAt_full arg5.view]
    try rw [View.readCov_full arg16.view, View.readCov_full arg15.view, readCov_window arg16.view, readCov_window arg14.view, View.readAt_full arg17.view]
    rw [← hG]
    rfl
  isplitl [H11]
  · iexists _; isplitr [H11]; swap; · iexact H11
    ipureintro
    repeat delta sound1_pos.sl.v82 sound1_pos.sl.r_6 sound1_pos.sl.H13_1 sound1_pos.sl.H17_1 sound1_pos.sl.r_22 sound1_pos.sl.r_18 sound1_pos.sl.r_7 sound1_pos.sl.H15_1 sound1_pos.sl.v1 sound1_pos.sl.r_20 sound1_pos.sl.r_17 sound1_pos.sl.r_9 sound1_pos.sl.r_15 sound1_pos.sl.v41 sound1_pos.sl.v0 sound1_pos.sl.v2 sound1_pos.sl.r_8 sound1_pos.sl.r_2 sound1_pos.sl.r_13 sound1_pos.sl.r_10 sound1_pos.sl.v265 sound1_pos.sl.r_23 sound1_pos.sl.r_16 sound1_pos.sl.r_21 sound1_pos.sl.v81 sound1_pos.sl.v92 sound1_pos.sl.r_11 sound1_pos.sl.r_1 sound1_pos.sl.r_5 sound1_pos.sl.r_3 sound1_pos.sl.v261 sound1_pos.sl.r_14 sound1_pos.sl.H14_1 sound1_pos.sl.r_4 sound1_pos.sl.r_19 sound1_pos.sl.r sound1_pos.sl.v93 sound1_pos.sl.H16_1 sound1_pos.sl.r_12
    rw [View.read_writes_full]
    try rw [View.readCov_full arg17.view]
    first | rw [View.readCov_full arg13.view] | rw [readCov_window arg13.view]
    try rw [View.readAt_full arg6.view, View.readAt_full arg7.view, View.readAt_full arg8.view, View.readAt_full arg9.view]
    rw [View.readAt_full arg5.view]
    try rw [View.readCov_full arg16.view, View.readCov_full arg15.view, readCov_window arg16.view, readCov_window arg14.view, View.readAt_full arg17.view]
    rw [← hG]
    rfl
  isplitl [H12]
  · iexists _; isplitr [H12]; swap; · iexact H12
    ipureintro
    rw [View.read_writes_cons_put arg12.view _ _ _ _ rfl, View.writes_nil, ← hG]
    rfl
  isplitl [H13]
  · iexists _, _; isplitr [H13]; swap; · iexact H13
    ipureintro; rfl
  isplitl [H14]
  · iexists _, _; isplitr [H14]; swap; · iexact H14
    ipureintro; rfl
  isplitl [H15]
  · iexists _, _; isplitr [H15]; swap; · iexact H15
    ipureintro; rfl
  isplitl [H16]
  · iexists _, _; isplitr [H16]; swap; · iexact H16
    ipureintro; rfl
  iexists _; isplitr [H17]; swap; · iexact H17
  ipureintro
  repeat delta sound1_pos.sl.v82 sound1_pos.sl.r_6 sound1_pos.sl.H13_1 sound1_pos.sl.H17_1 sound1_pos.sl.r_22 sound1_pos.sl.r_18 sound1_pos.sl.r_7 sound1_pos.sl.H15_1 sound1_pos.sl.v1 sound1_pos.sl.r_20 sound1_pos.sl.r_17 sound1_pos.sl.r_9 sound1_pos.sl.r_15 sound1_pos.sl.v41 sound1_pos.sl.v0 sound1_pos.sl.v2 sound1_pos.sl.r_8 sound1_pos.sl.r_2 sound1_pos.sl.r_13 sound1_pos.sl.r_10 sound1_pos.sl.v265 sound1_pos.sl.r_23 sound1_pos.sl.r_16 sound1_pos.sl.r_21 sound1_pos.sl.v81 sound1_pos.sl.v92 sound1_pos.sl.r_11 sound1_pos.sl.r_1 sound1_pos.sl.r_5 sound1_pos.sl.r_3 sound1_pos.sl.v261 sound1_pos.sl.r_14 sound1_pos.sl.H14_1 sound1_pos.sl.r_4 sound1_pos.sl.r_19 sound1_pos.sl.r sound1_pos.sl.v93 sound1_pos.sl.H16_1 sound1_pos.sl.r_12
  rw [View.read_writes_full]
  try rw [View.readCov_full arg17.view]
  first | rw [View.readCov_full arg13.view] | rw [readCov_window arg13.view]
  try rw [View.readAt_full arg6.view, View.readAt_full arg7.view, View.readAt_full arg8.view, View.readAt_full arg9.view]
  rw [View.readAt_full arg5.view]
  try rw [View.readCov_full arg16.view, View.readCov_full arg15.view, readCov_window arg16.view, readCov_window arg14.view, View.readAt_full arg17.view]
  rw [← hG]
  rfl
set_option maxHeartbeats 1000000 in
/-- A batch's first chunk: the body clears the tail and the state, then goes on as later. -/
theorem sound1_zero (hc : Scalar.cmpi .ne (Scalar.extui (Scalar.cmpi .eq (BitVec.ofNat 32 (i 1).val) 0#32) : BitVec 32) 0#32 = 1#1)
    (tok : IVec S4x2048 32) (eg : FVec F S1024x1x2048 .f32) (cw : FVec F S4x1x2048 .f32) (cb : FVec F S1x1x2048 .f32)
    (xp : FVec F S2048x96 .f32) (dw : FVec F S64x2048 .f32) (db : FVec F S1x2048 .f32) (al : FVec F S16x2048 .f32)
    (g : FVec F S264x1x2048 .f32) (h : FVec F S16x2048 .f32) (htok : ∀ y, (tok y).toNat < 1024)
    (K : PUnit → sProp 𝕄) :
    iprop(owns (c : Thread nD τ) arg2 fullShare tok ∗ owns (c : Thread nD τ) arg3 fullShare eg ∗ owns (c : Thread nD τ) arg4 fullShare cw ∗ owns (c : Thread nD τ) arg5 fullShare cb ∗ owns (c : Thread nD τ) arg6 fullShare xp ∗ owns (c : Thread nD τ) arg7 fullShare dw ∗ owns (c : Thread nD τ) arg8 fullShare db ∗ owns (c : Thread nD τ) arg9 fullShare al ∗ (∃ d, owns (c : Thread nD τ) arg10 fullShare d) ∗ (∃ d, owns (c : Thread nD τ) arg11 fullShare d) ∗ owns (c : Thread nD τ) arg12 fullShare g ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare h
      ∗ ((owns (c : Thread nD τ) arg2 fullShare tok ∗ owns (c : Thread nD τ) arg3 fullShare eg ∗ owns (c : Thread nD τ) arg4 fullShare cw ∗ owns (c : Thread nD τ) arg5 fullShare cb ∗ owns (c : Thread nD τ) arg6 fullShare xp ∗ owns (c : Thread nD τ) arg7 fullShare dw ∗ owns (c : Thread nD τ) arg8 fullShare db ∗ owns (c : Thread nD τ) arg9 fullShare al ∗ owns (c : Thread nD τ) arg10 fullShare (k1_pay2 (stateOf xp dw db al (xcOf cw cb (gath tok eg i (clearOf g) 256)) k1_pay13)) ∗ owns (c : Thread nD τ) arg11 fullShare (k1_pay3 (lastRow (xcOf cw cb (gath tok eg i (clearOf g) 256)))) ∗ owns (c : Thread nD τ) arg12 fullShare (tailOf (gath tok eg i (clearOf g) 256)) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare (stateOf xp dw db al (xcOf cw cb (gath tok eg i (clearOf g) 256)) k1_pay13)) -∗ K ⟨⟩))
    ⊢ wp Idealize.ShloMosaic.frame (wpE defs₀ Variants.none (c : Thread nD τ) none) Set.univ
        (cc1__main_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1__main_kernel_eq_skeleton]
  unfold cc1__main_kernel_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%d10, %f10, %e10, H10⟩, ⟨%d11, %f11, %e11, H11⟩, ⟨%f12, %e12, H12⟩, ⟨%d13, %f13, %e13, H13⟩, ⟨%d14, %f14, %e14, H14⟩, ⟨%d15, %f15, %e15, H15⟩, ⟨%d16, %f16, %e16, H16⟩, ⟨%f17, %e17, H17⟩, Hk⟩
  subst e2 e3 e4 e5 e6 e7 e8 e9 e12 e17
  have hz : arg12.view.read (Elt F) (arg12.view.writes (Elt F) f12 [⟨Rect.unit (s := S264x1x2048) ![5, 0, 0] S3x1x2048.size inb_S264x1x2048_S3x1x2048_5_0_0, k1_pay12⟩]) = gath (arg2.view.read (Elt F) f2) (arg3.view.read (Elt F) f3) i (clearOf (arg12.view.read (Elt F) f12)) (8 * 0) := by
    rw [gath_zero, View.read_writes_cons_put arg12.view _ _ _ _ rfl, View.writes_nil]
    rfl
  let I := loopInv_k1_t1 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 0).val) (BitVec.ofNat 32 (i 1).val) f2 htok f3 (clearOf (arg12.view.read (Elt F) f12))
  sl_exec (disch := exact hc)
  sl_step
  have hG : arg12.view.read (Elt F) fL0 = gath (arg2.view.read (Elt F) f2) (arg3.view.read (Elt F) f3) i (clearOf (arg12.view.read (Elt F) f12)) 256 := by assumption
  iapply Hk
  isplitl [H2]
  · iexists f2; isplitr [H2]; swap; · iexact H2
    ipureintro; rfl
  isplitl [H3]
  · iexists f3; isplitr [H3]; swap; · iexact H3
    ipureintro; rfl
  isplitl [H4]
  · iexists f4; isplitr [H4]; swap; · iexact H4
    ipureintro; rfl
  isplitl [H5]
  · iexists f5; isplitr [H5]; swap; · iexact H5
    ipureintro; rfl
  isplitl [H6]
  · iexists f6; isplitr [H6]; swap; · iexact H6
    ipureintro; rfl
  isplitl [H7]
  · iexists f7; isplitr [H7]; swap; · iexact H7
    ipureintro; rfl
  isplitl [H8]
  · iexists f8; isplitr [H8]; swap; · iexact H8
    ipureintro; rfl
  isplitl [H9]
  · iexists f9; isplitr [H9]; swap; · iexact H9
    ipureintro; rfl
  isplitl [H10]
  · iexists _; isplitr [H10]; swap; · iexact H10
    ipureintro
    repeat delta sound1_zero.sl.v82 sound1_zero.sl.H17_2 sound1_zero.sl.v255 sound1_zero.sl.r_6 sound1_zero.sl.H13_1 sound1_zero.sl.H17_1 sound1_zero.sl.r_22 sound1_zero.sl.r_18 sound1_zero.sl.r_7 sound1_zero.sl.H15_1 sound1_zero.sl.v1 sound1_zero.sl.r_20 sound1_zero.sl.r_17 sound1_zero.sl.r_9 sound1_zero.sl.r_15 sound1_zero.sl.v41 sound1_zero.sl.v0 sound1_zero.sl.v2 sound1_zero.sl.r_8 sound1_zero.sl.r_2 sound1_zero.sl.r_13 sound1_zero.sl.r_10 sound1_zero.sl.v265 sound1_zero.sl.r_23 sound1_zero.sl.r_16 sound1_zero.sl.r_21 sound1_zero.sl.v81 sound1_zero.sl.v92 sound1_zero.sl.r_11 sound1_zero.sl.r_1 sound1_zero.sl.r_5 sound1_zero.sl.r_3 sound1_zero.sl.v261 sound1_zero.sl.r_14 sound1_zero.sl.H14_1 sound1_zero.sl.r_4 sound1_zero.sl.r_19 sound1_zero.sl.r sound1_zero.sl.v93 sound1_zero.sl.H16_1 sound1_zero.sl.r_12
    rw [View.read_writes_full]
    (try rw [View.readCov_full arg17.view]); (try rw [View.readCov_full arg17.view])
    first | rw [View.readCov_full arg13.view] | rw [readCov_window arg13.view]
    try rw [View.readAt_full arg6.view, View.readAt_full arg7.view, View.readAt_full arg8.view, View.readAt_full arg9.view]
    rw [View.readAt_full arg5.view]
    try rw [View.readCov_full arg16.view, View.readCov_full arg15.view, readCov_window arg16.view, readCov_window arg14.view]
    rw [← hG]
    rfl
  isplitl [H11]
  · iexists _; isplitr [H11]; swap; · iexact H11
    ipureintro
    repeat delta sound1_zero.sl.v82 sound1_zero.sl.H17_2 sound1_zero.sl.v255 sound1_zero.sl.r_6 sound1_zero.sl.H13_1 sound1_zero.sl.H17_1 sound1_zero.sl.r_22 sound1_zero.sl.r_18 sound1_zero.sl.r_7 sound1_zero.sl.H15_1 sound1_zero.sl.v1 sound1_zero.sl.r_20 sound1_zero.sl.r_17 sound1_zero.sl.r_9 sound1_zero.sl.r_15 sound1_zero.sl.v41 sound1_zero.sl.v0 sound1_zero.sl.v2 sound1_zero.sl.r_8 sound1_zero.sl.r_2 sound1_zero.sl.r_13 sound1_zero.sl.r_10 sound1_zero.sl.v265 sound1_zero.sl.r_23 sound1_zero.sl.r_16 sound1_zero.sl.r_21 sound1_zero.sl.v81 sound1_zero.sl.v92 sound1_zero.sl.r_11 sound1_zero.sl.r_1 sound1_zero.sl.r_5 sound1_zero.sl.r_3 sound1_zero.sl.v261 sound1_zero.sl.r_14 sound1_zero.sl.H14_1 sound1_zero.sl.r_4 sound1_zero.sl.r_19 sound1_zero.sl.r sound1_zero.sl.v93 sound1_zero.sl.H16_1 sound1_zero.sl.r_12
    rw [View.read_writes_full]
    (try rw [View.readCov_full arg17.view]); (try rw [View.readCov_full arg17.view])
    first | rw [View.readCov_full arg13.view] | rw [readCov_window arg13.view]
    try rw [View.readAt_full arg6.view, View.readAt_full arg7.view, View.readAt_full arg8.view, View.readAt_full arg9.view]
    rw [View.readAt_full arg5.view]
    try rw [View.readCov_full arg16.view, View.readCov_full arg15.view, readCov_window arg16.view, readCov_window arg14.view]
    rw [← hG]
    rfl
  isplitl [H12]
  · iexists _; isplitr [H12]; swap; · iexact H12
    ipureintro
    rw [View.read_writes_cons_put arg12.view _ _ _ _ rfl, View.writes_nil, ← hG]
    rfl
  isplitl [H13]
  · iexists _, _; isplitr [H13]; swap; · iexact H13
    ipureintro; rfl
  isplitl [H14]
  · iexists _, _; isplitr [H14]; swap; · iexact H14
    ipureintro; rfl
  isplitl [H15]
  · iexists _, _; isplitr [H15]; swap; · iexact H15
    ipureintro; rfl
  isplitl [H16]
  · iexists _, _; isplitr [H16]; swap; · iexact H16
    ipureintro; rfl
  iexists _; isplitr [H17]; swap; · iexact H17
  ipureintro
  repeat delta sound1_zero.sl.v82 sound1_zero.sl.H17_2 sound1_zero.sl.v255 sound1_zero.sl.r_6 sound1_zero.sl.H13_1 sound1_zero.sl.H17_1 sound1_zero.sl.r_22 sound1_zero.sl.r_18 sound1_zero.sl.r_7 sound1_zero.sl.H15_1 sound1_zero.sl.v1 sound1_zero.sl.r_20 sound1_zero.sl.r_17 sound1_zero.sl.r_9 sound1_zero.sl.r_15 sound1_zero.sl.v41 sound1_zero.sl.v0 sound1_zero.sl.v2 sound1_zero.sl.r_8 sound1_zero.sl.r_2 sound1_zero.sl.r_13 sound1_zero.sl.r_10 sound1_zero.sl.v265 sound1_zero.sl.r_23 sound1_zero.sl.r_16 sound1_zero.sl.r_21 sound1_zero.sl.v81 sound1_zero.sl.v92 sound1_zero.sl.r_11 sound1_zero.sl.r_1 sound1_zero.sl.r_5 sound1_zero.sl.r_3 sound1_zero.sl.v261 sound1_zero.sl.r_14 sound1_zero.sl.H14_1 sound1_zero.sl.r_4 sound1_zero.sl.r_19 sound1_zero.sl.r sound1_zero.sl.v93 sound1_zero.sl.H16_1 sound1_zero.sl.r_12
  rw [View.read_writes_full]
  (try rw [View.readCov_full arg17.view]); (try rw [View.readCov_full arg17.view])
  first | rw [View.readCov_full arg13.view] | rw [readCov_window arg13.view]
  try rw [View.readAt_full arg6.view, View.readAt_full arg7.view, View.readAt_full arg8.view, View.readAt_full arg9.view]
  rw [View.readAt_full arg5.view]
  try rw [View.readCov_full arg16.view, View.readCov_full arg15.view, readCov_window arg16.view, readCov_window arg14.view]
  rw [← hG]
  rfl

end Cert.KernelIdeal.Proof
-- ==== Proof.KernelIdeal.Ends.lean ====
/-
  One grid point of the table's projection, and the one point of the epilogue: each body stores one value computed from the
  blocks it reads.
-/
module

public import proofs.«01_k».proof.Proof.KernelIdeal.Step
public import Idealize.ShloMosaic.Lib.Pipeline.FrameBody
public import Idealize.ShloMosaic.Lib.Pipeline.Kit

@[expose] public section

set_option maxRecDepth 16384

noncomputable section

namespace Cert.KernelIdeal.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The table's row of a word, as the epilogue reads it. -/
def embRow (e3 : FVec F S1024x1x1024 .f32) (v : BitVec 32) : FVec F S1x1x1024 .f32 := fun y =>
  e3 (ix3 ⟨v.toNat % 1024, Nat.mod_lt _ (by decide)⟩ 0 (y 2))

/-- What the epilogue stores. -/
def epi (tok : IVec S1x4 32) (e3 : FVec F S1024x1x1024 .f32) (wz : FVec F S1024x2048 .f32) (hs : FVec F S4x16x2048 .f32) (xl : FVec F S4x2048 .f32) (wc : FVec F S2048x16 .f32) (dd : FVec F S1x2048 .f32) (ow : FVec F S2048x1024 .f32) (fw : FVec F S1024x1024 .f32) (fb : FVec F S1x1024 .f32) : FVec F S4x1024 .f32 :=
  k2_pay1 (k2_pay2 (embRow e3 (tok (ix2 0 0))) (embRow e3 (tok (ix2 0 1))) (embRow e3 (tok (ix2 0 2))) (embRow e3 (tok (ix2 0 3))) wz)
    (k2_pay3 xl) (k2_pay4 hs) (k2_pay5 xl wc) dd ow fw fb

/-- A word below the table's height passes the row check. -/
theorem chk2_of_lt {v : BitVec 32} (h : v.toNat < 1024) : k2_chk1 v := by
  intro a
  fin_cases a
  · show v.toNat + 1 ≤ 1024
    omega
  · show 0 + 1 ≤ 1
    omega
  · show 0 + 1024 ≤ 1024
    omega

/-- A row loaded at a word's row is the table's row of the word. -/
theorem embRow_val (v : View sig .tc .vmem S1024x1x1024 .f32) (fe : v.ty.Contents (Elt F)) (x : BitVec 32) (hx : x.toNat < 1024)
    {off : Fin 3 → ℕ} (inb : ∀ a, off a + S1x1x1024.size a ≤ S1024x1x1024.size a) (hoff : off = ![x.toNat, 0, 0]) :
    v.readAt (Elt F) (Rect.unit (s := S1024x1x1024) off S1x1x1024.size inb).toLoadRect fe = embRow (v.read (Elt F) fe) x := by
  subst hoff
  funext y
  refine congrArg (v.read (Elt F) fe) (funext fun a => Fin.ext ?_)
  have h0 : (y 0).val < 1 := (y 0).isLt
  have h1 : (y 1).val < 1 := (y 1).isLt
  match a with
  | ⟨0, _⟩ =>
    show x.toNat + 1 * (y 0).val = x.toNat % 1024
    rw [Nat.mod_eq_of_lt hx]
    omega
  | ⟨1, _⟩ =>
    show 0 + 1 * (y 1).val = 0
    omega
  | ⟨2, _⟩ =>
    show 0 + 1 * (y 2).val = (y 2).val
    omega

/-- The word loaded for batch `b`. -/
theorem lastWord_val (v : View sig .tc .smem S1x4 .i32) (ft : v.ty.Contents (Elt F)) (b : Fin 4)
    {off : Fin 2 → ℕ} (inb : ∀ a, off a + S1x1.size a ≤ S1x4.size a) (hoff : off = ![0, b.val]) (y : S1x1.Idx) :
    v.readAt (Elt F) (Rect.unit (s := S1x4) off S1x1.size inb).toLoadRect ft y = v.read (Elt F) ft (ix2 0 b) := by
  subst hoff
  refine congrArg (v.read (Elt F) ft) (funext fun a => Fin.ext ?_)
  have h0 : (y 0).val < 1 := (y 0).isLt
  have h1 : (y 1).val < 1 := (y 1).isLt
  match a with
  | ⟨0, _⟩ =>
    show 0 + 1 * (y 0).val = 0
    omega
  | ⟨1, _⟩ =>
    show b.val + 1 * (y 1).val = b.val
    omega

/-- The four rows replaced by equal ones. -/
theorem rows_congr {a a' b b' d d' e e' : FVec F S1x1x1024 .f32} (w : FVec F S1024x2048 .f32) (ha : a = a') (hb : b = b')
    (hd : d = d') (he : e = e') : k2_pay2 a b d e w = k2_pay2 a' b' d' e' w := by
  subst ha hb hd he
  rfl

/-- A word of the window is below the table's height when all words of the array are. -/
theorem lastWord_lt (v : View sig .tc .smem S1x4 .i32) (ft : v.ty.Contents (Elt F)) (h : ∀ y, (v.read (Elt F) ft y : BitVec 32).toNat < 1024)
    (off : Fin 2 → ℕ) (inb : ∀ a, off a + S1x1.size a ≤ S1x4.size a) (y : S1x1.Idx) :
    (v.readAt (Elt F) (Rect.unit (s := S1x4) off S1x1.size inb).toLoadRect ft y : BitVec 32).toNat < 1024 := h _

/-- The projection's body stores the product of its two blocks. -/
theorem sound0 (c : Dev nD) (i : grid0.Coords) (arg1 : Memref sig .tc .vmem S512x1024 .f32) (harg1 : arg1.IsWhole) (arg2 : Memref sig .tc .vmem S1024x2048 .f32) (harg2 : arg2.IsWhole) (arg3 : Memref sig .tc .vmem S512x2048 .f32) (harg3 : arg3.IsWhole)
    (a : FVec F S512x1024 .f32) (b : FVec F S1024x2048 .f32) (K : PUnit → sProp 𝕄) :
    iprop(owns (c : Thread nD τ) arg1 fullShare a ∗ owns (c : Thread nD τ) arg2 fullShare b ∗ (∃ d, owns (c : Thread nD τ) arg3 fullShare d) ∗ ((owns (c : Thread nD τ) arg1 fullShare a ∗ owns (c : Thread nD τ) arg2 fullShare b ∗ owns (c : Thread nD τ) arg3 fullShare (k0_pay1 a b)) -∗ K ⟨⟩))
    ⊢ wp Idealize.ShloMosaic.frame (wpE defs₀ Variants.none (c : Thread nD τ) none) Set.univ
        (cc0__eprime_kernel i arg1 harg1 arg2 harg2 arg3 harg3) K := by
  simp only [cc0__eprime_kernel_eq_skeleton]
  unfold cc0__eprime_kernel_skel
  unfold owns
  iintro ⟨⟨%f1, %e1, H1⟩, ⟨%f2, %e2, H2⟩, ⟨%d3, %f3, %e3, H3⟩, Hk⟩
  subst e1 e2
  sl_exec
  sl_step
  iapply Hk
  isplitl [H1]
  · iexists f1; isplitr [H1]; swap; · iexact H1
    ipureintro; rfl
  isplitl [H2]
  · iexists f2; isplitr [H2]; swap; · iexact H2
    ipureintro; rfl
  iexists _; isplitr [H3]; swap; · iexact H3
  ipureintro
  rw [View.read_writes_full, View.readAt_full arg1.view, View.readAt_full arg2.view]

set_option maxHeartbeats 1000000 in
/-- The epilogue's body stores `epi` of its blocks. -/
theorem sound2 (c : Dev nD) (arg0 : Memref sig .tc .smem S1x4 .i32) (harg0 : arg0.IsWhole) (arg1 : Memref sig .tc .vmem S1024x1x1024 .f32) (harg1 : arg1.IsWhole) (arg2 : Memref sig .tc .vmem S1024x2048 .f32) (harg2 : arg2.IsWhole) (arg3 : Memref sig .tc .vmem S4x16x2048 .f32) (harg3 : arg3.IsWhole) (arg4 : Memref sig .tc .vmem S4x2048 .f32) (harg4 : arg4.IsWhole) (arg5 : Memref sig .tc .vmem S2048x16 .f32) (harg5 : arg5.IsWhole) (arg6 : Memref sig .tc .vmem S1x2048 .f32) (harg6 : arg6.IsWhole) (arg7 : Memref sig .tc .vmem S2048x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S4x1024 .f32) (harg10 : arg10.IsWhole) (tok : IVec S1x4 32) (e3 : FVec F S1024x1x1024 .f32) (wz : FVec F S1024x2048 .f32) (hs : FVec F S4x16x2048 .f32) (xl : FVec F S4x2048 .f32) (wc : FVec F S2048x16 .f32) (dd : FVec F S1x2048 .f32) (ow : FVec F S2048x1024 .f32) (fw : FVec F S1024x1024 .f32) (fb : FVec F S1x1024 .f32) (htok : ∀ y, (tok y).toNat < 1024) (K : PUnit → sProp 𝕄) :
    iprop(owns (c : Thread nD τ) arg0 fullShare tok ∗ owns (c : Thread nD τ) arg1 fullShare e3 ∗ owns (c : Thread nD τ) arg2 fullShare wz ∗ owns (c : Thread nD τ) arg3 fullShare hs ∗ owns (c : Thread nD τ) arg4 fullShare xl ∗ owns (c : Thread nD τ) arg5 fullShare wc ∗ owns (c : Thread nD τ) arg6 fullShare dd ∗ owns (c : Thread nD τ) arg7 fullShare ow ∗ owns (c : Thread nD τ) arg8 fullShare fw ∗ owns (c : Thread nD τ) arg9 fullShare fb ∗ (∃ d, owns (c : Thread nD τ) arg10 fullShare d) ∗ ((owns (c : Thread nD τ) arg0 fullShare tok ∗ owns (c : Thread nD τ) arg1 fullShare e3 ∗ owns (c : Thread nD τ) arg2 fullShare wz ∗ owns (c : Thread nD τ) arg3 fullShare hs ∗ owns (c : Thread nD τ) arg4 fullShare xl ∗ owns (c : Thread nD τ) arg5 fullShare wc ∗ owns (c : Thread nD τ) arg6 fullShare dd ∗ owns (c : Thread nD τ) arg7 fullShare ow ∗ owns (c : Thread nD τ) arg8 fullShare fw ∗ owns (c : Thread nD τ) arg9 fullShare fb ∗ owns (c : Thread nD τ) arg10 fullShare (epi tok e3 wz hs xl wc dd ow fw fb)) -∗ K ⟨⟩))
    ⊢ wp Idealize.ShloMosaic.frame (wpE defs₀ Variants.none (c : Thread nD τ) none) Set.univ
        (cc2__epilogue_kernel arg0 harg0 arg1 harg1 arg2 harg2 arg3 harg3 arg4 harg4 arg5 harg5 arg6 harg6 arg7 harg7 arg8 harg8 arg9 harg9 arg10 harg10) K := by
  simp only [cc2__epilogue_kernel_eq_skeleton]
  unfold cc2__epilogue_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%d10, %f10, %e10, H10⟩, Hk⟩
  subst e0 e1 e2 e3 e4 e5 e6 e7 e8 e9
  sl_exec (disch := exact chk2_of_lt (lastWord_lt _ _ htok _ _ _))
  sl_step
  iapply Hk
  isplitl [H0]
  · iexists f0; isplitr [H0]; swap; · iexact H0
    ipureintro; rfl
  isplitl [H1]
  · iexists f1; isplitr [H1]; swap; · iexact H1
    ipureintro; rfl
  isplitl [H2]
  · iexists f2; isplitr [H2]; swap; · iexact H2
    ipureintro; rfl
  isplitl [H3]
  · iexists f3; isplitr [H3]; swap; · iexact H3
    ipureintro; rfl
  isplitl [H4]
  · iexists f4; isplitr [H4]; swap; · iexact H4
    ipureintro; rfl
  isplitl [H5]
  · iexists f5; isplitr [H5]; swap; · iexact H5
    ipureintro; rfl
  isplitl [H6]
  · iexists f6; isplitr [H6]; swap; · iexact H6
    ipureintro; rfl
  isplitl [H7]
  · iexists f7; isplitr [H7]; swap; · iexact H7
    ipureintro; rfl
  isplitl [H8]
  · iexists f8; isplitr [H8]; swap; · iexact H8
    ipureintro; rfl
  isplitl [H9]
  · iexists f9; isplitr [H9]; swap; · iexact H9
    ipureintro; rfl
  iexists _; isplitr [H10]; swap; · iexact H10
  ipureintro
  rw [View.read_writes_full]
  delta sound2.sl.r_4 sound2.sl.r_5 sound2.sl.r_6 sound2.sl.r_7
  delta sound2.sl.v2 sound2.sl.v6 sound2.sl.v10 sound2.sl.v14
  delta sound2.sl.r sound2.sl.r_1 sound2.sl.r_2 sound2.sl.r_3
  have q1 : ∀ (x : BitVec 32) (hx : x.toNat < 1024) inb, arg1.view.readAt (Elt F)
      (Rect.unit (s := S1024x1x1024) (k2_off1 x) S1x1x1024.size inb).toLoadRect f1 = embRow (arg1.view.read (Elt F) f1) x :=
    fun x hx inb => embRow_val arg1.view f1 x hx inb rfl
  have q2 : ∀ (x : BitVec 32) (hx : x.toNat < 1024) inb, arg1.view.readAt (Elt F)
      (Rect.unit (s := S1024x1x1024) (k2_off2 x) S1x1x1024.size inb).toLoadRect f1 = embRow (arg1.view.read (Elt F) f1) x :=
    fun x hx inb => embRow_val arg1.view f1 x hx inb rfl
  have q3 : ∀ (x : BitVec 32) (hx : x.toNat < 1024) inb, arg1.view.readAt (Elt F)
      (Rect.unit (s := S1024x1x1024) (k2_off3 x) S1x1x1024.size inb).toLoadRect f1 = embRow (arg1.view.read (Elt F) f1) x :=
    fun x hx inb => embRow_val arg1.view f1 x hx inb rfl
  have q4 : ∀ (x : BitVec 32) (hx : x.toNat < 1024) inb, arg1.view.readAt (Elt F)
      (Rect.unit (s := S1024x1x1024) (k2_off4 x) S1x1x1024.size inb).toLoadRect f1 = embRow (arg1.view.read (Elt F) f1) x :=
    fun x hx inb => embRow_val arg1.view f1 x hx inb rfl
  rw [View.readAt_full arg2.view, View.readAt_full arg3.view, View.readAt_full arg4.view, View.readAt_full arg5.view, View.readAt_full arg6.view, View.readAt_full arg7.view, View.readAt_full arg8.view, View.readAt_full arg9.view]
  exact congrArg (fun q => k2_pay1 q (k2_pay3 (arg4.view.read (Elt F) f4)) (k2_pay4 (arg3.view.read (Elt F) f3)) (k2_pay5 (arg4.view.read (Elt F) f4) (arg5.view.read (Elt F) f5)) (arg6.view.read (Elt F) f6) (arg7.view.read (Elt F) f7) (arg8.view.read (Elt F) f8) (arg9.view.read (Elt F) f9))
    (rows_congr (arg2.view.read (Elt F) f2)
      ((q1 _ (lastWord_lt arg0.view f0 htok ![0, 0] inb_S1x4_S1x1_0_0 (Shape.Idx.first (s := S1x1) (by rw [numel1_S1x1]; decide))) (chk2_of_lt (lastWord_lt arg0.view f0 htok ![0, 0] inb_S1x4_S1x1_0_0 (Shape.Idx.first (s := S1x1) (by rw [numel1_S1x1]; decide))))).trans
        (congrArg (embRow (arg1.view.read (Elt F) f1)) (lastWord_val arg0.view f0 0 (off := ![0, 0]) inb_S1x4_S1x1_0_0 rfl (Shape.Idx.first (s := S1x1) (by rw [numel1_S1x1]; decide)))))
      ((q2 _ (lastWord_lt arg0.view f0 htok ![0, 1] inb_S1x4_S1x1_0_1 (Shape.Idx.first (s := S1x1) (by rw [numel1_S1x1]; decide))) (chk2_of_lt (lastWord_lt arg0.view f0 htok ![0, 1] inb_S1x4_S1x1_0_1 (Shape.Idx.first (s := S1x1) (by rw [numel1_S1x1]; decide))))).trans
        (congrArg (embRow (arg1.view.read (Elt F) f1)) (lastWord_val arg0.view f0 1 (off := ![0, 1]) inb_S1x4_S1x1_0_1 rfl (Shape.Idx.first (s := S1x1) (by rw [numel1_S1x1]; decide)))))
      ((q3 _ (lastWord_lt arg0.view f0 htok ![0, 2] inb_S1x4_S1x1_0_2 (Shape.Idx.first (s := S1x1) (by rw [numel1_S1x1]; decide))) (chk2_of_lt (lastWord_lt arg0.view f0 htok ![0, 2] inb_S1x4_S1x1_0_2 (Shape.Idx.first (s := S1x1) (by rw [numel1_S1x1]; decide))))).trans
        (congrArg (embRow (arg1.view.read (Elt F) f1)) (lastWord_val arg0.view f0 2 (off := ![0, 2]) inb_S1x4_S1x1_0_2 rfl (Shape.Idx.first (s := S1x1) (by rw [numel1_S1x1]; decide)))))
      ((q4 _ (lastWord_lt arg0.view f0 htok ![0, 3] inb_S1x4_S1x1_0_3 (Shape.Idx.first (s := S1x1) (by rw [numel1_S1x1]; decide))) (chk2_of_lt (lastWord_lt arg0.view f0 htok ![0, 3] inb_S1x4_S1x1_0_3 (Shape.Idx.first (s := S1x1) (by rw [numel1_S1x1]; decide))))).trans
        (congrArg (embRow (arg1.view.read (Elt F) f1)) (lastWord_val arg0.view f0 3 (off := ![0, 3]) inb_S1x4_S1x1_0_3 rfl (Shape.Idx.first (s := S1x1) (by rw [numel1_S1x1]; decide))))))

end Cert.KernelIdeal.Proof
-- ==== Proof.KernelIdeal.Carry.lean ====
/-
  What the scan kernel carries from one grid point to the next: the tail of the gathered rows and the state, point by point.
-/
module

public import proofs.«01_k».proof.Proof.KernelIdeal.Ends
public import Idealize.ShloMosaic.Lib.Pipeline.FrameBody
public import Idealize.ShloMosaic.Lib.Pipeline.Kit

@[expose] public section

set_option maxRecDepth 16384

noncomputable section

namespace Cert.KernelIdeal.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Grid point number `n`. -/
def pt (n : ℕ) : grid1.Coords := grid1.coords ⟨n % grid1.N, Nat.mod_lt _ (by decide)⟩

/-- A scratch of no particular contents. -/
def blank : FVec F S264x1x2048 .f32 := fun _ => k1_pay13 (ix2 0 0)

section
variable (tok : IVec S4x2048 32) (eg : FVec F S1024x1x2048 .f32) (cw : FVec F S4x1x2048 .f32) (cb : FVec F S1x1x2048 .f32)
  (xp : FVec F S2048x96 .f32) (dw : FVec F S64x2048 .f32) (db : FVec F S1x2048 .f32) (al : FVec F S16x2048 .f32)

/-- The scratch at point `n` once its 256 rows are gathered. -/
def scr : ℕ → FVec F S264x1x2048 .f32
  | 0 => gath tok eg (pt 0) (clearOf blank) 256
  | n + 1 => gath tok eg (pt (n + 1)) (if (n + 1) % 8 = 0 then clearOf blank else tailOf (scr n)) 256

/-- The convolved inputs of point `n`'s chunk. -/
def xcAt (n : ℕ) : FVec F S256x2048 .f32 := xcOf cw cb (scr tok eg n)

/-- The state after point `n`. -/
def hAt : ℕ → FVec F S16x2048 .f32
  | 0 => stateOf xp dw db al (xcAt tok eg cw cb 0) k1_pay13
  | n + 1 => stateOf xp dw db al (xcAt tok eg cw cb (n + 1)) (if (n + 1) % 8 = 0 then k1_pay13 else hAt n)

/-- Before point `n`, unless it starts a batch: rows 5, 6, 7 of the scratch are the tail point `n - 1` left, and the state is
the one it left. -/
def Carried (n : ℕ) (g : FVec F S264x1x2048 .f32) (h : FVec F S16x2048 .f32) : Prop :=
  n % 8 ≠ 0 → (∀ y : S264x1x2048.Idx, 5 ≤ (y 0).val → (y 0).val < 8 → g y = tailOf (scr tok eg (n - 1)) y)
    ∧ h = hAt tok eg cw cb xp dw db al (n - 1)
end

/-! ## Only rows 5, 6, 7 of what the gather finds matter -/

/-- Two scratches equal on rows 5, 6, 7 are equal from row 5 on once gathered. -/
theorem gath_congr (tok : IVec S4x2048 32) (eg : FVec F S1024x1x2048 .f32) (i : grid1.Coords) {g g' : FVec F S264x1x2048 .f32}
    (hg : ∀ y : S264x1x2048.Idx, 5 ≤ (y 0).val → (y 0).val < 8 → g y = g' y) (y : S264x1x2048.Idx) (hy : 5 ≤ (y 0).val) :
    gath tok eg i g 256 y = gath tok eg i g' 256 y := by
  unfold gath
  have h0 : (y 0).val < 264 := (y 0).isLt
  by_cases h8 : 8 ≤ (y 0).val
  · rw [if_pos ⟨h8, by omega⟩, if_pos ⟨h8, by omega⟩]
  · rw [if_neg (by omega), if_neg (by omega)]
    exact hg y hy (by omega)

/-- Rows from 5 on read the same off scratches equal there. -/
theorem rowsAt_congr {G G' : FVec F S264x1x2048 .f32} (h : ∀ y : S264x1x2048.Idx, 5 ≤ (y 0).val → G y = G' y) (o : ℕ)
    (ho : o + 256 ≤ 264) (h5 : 5 ≤ o) : rowsAt o ho G = rowsAt o ho G' := by
  funext y
  refine h _ ?_
  show 5 ≤ o + 1 * (y 0).val
  omega

/-- The convolution reads rows from 5 on only. -/
theorem xcOf_congr (cw : FVec F S4x1x2048 .f32) (cb : FVec F S1x1x2048 .f32) {G G' : FVec F S264x1x2048 .f32}
    (h : ∀ y : S264x1x2048.Idx, 5 ≤ (y 0).val → G y = G' y) : xcOf cw cb G = xcOf cw cb G' := by
  unfold xcOf
  rw [rowsAt_congr h 5 _ (by decide), rowsAt_congr h 6 _ (by decide), rowsAt_congr h 7 _ (by decide),
    rowsAt_congr h 8 _ (by decide)]

/-- The tail read at a row of 5, 6, 7: the row 256 further on. -/
theorem tailOf_apply (G : FVec F S264x1x2048 .f32) (y : S264x1x2048.Idx) (h5 : 5 ≤ (y 0).val) (h8 : (y 0).val < 8) :
    tailOf G y = G (ix3 ⟨(y 0).val + 256, by omega⟩ 0 (y 2)) := by
  have h1 : (y 1).val < 1 := (y 1).isLt
  have h2 : (y 2).val < 2048 := (y 2).isLt
  unfold tailOf VecWindow.put k1_pay17
  rw [dif_pos (by
    intro a
    fin_cases a
    · exact ⟨h5, h8⟩
    · exact ⟨Nat.zero_le _, by show (y 1).val < 0 + 1; omega⟩
    · exact ⟨Nat.zero_le _, by show (y 2).val < 0 + 2048; omega⟩)]
  rw [shapeCast_self]
  unfold VecWindow.window
  refine congrArg G (funext fun a => Fin.ext ?_)
  fin_cases a
  · show 261 + 1 * ((y 0).val - 5) = (y 0).val + 256
    omega
  · show 0 + 1 * ((y 1).val - 0) = 0
    omega
  · show 0 + 1 * ((y 2).val - 0) = (y 2).val
    omega

/-- The cleared rows hold zero whatever the scratch held. -/
theorem clearOf_congr (g g' : FVec F S264x1x2048 .f32) (y : S264x1x2048.Idx) (h5 : 5 ≤ (y 0).val) (h8 : (y 0).val < 8) :
    clearOf g y = clearOf g' y := by
  have h1 : (y 1).val < 1 := (y 1).isLt
  have h2 : (y 2).val < 2048 := (y 2).isLt
  have hh : ∀ a, (![5, 0, 0] : Fin 3 → ℕ) a ≤ (y a).val ∧ (y a).val < (![5, 0, 0] : Fin 3 → ℕ) a + S3x1x2048.size a := by
    intro a
    fin_cases a
    · exact ⟨h5, h8⟩
    · exact ⟨Nat.zero_le _, by show (y 1).val < 0 + 1; omega⟩
    · exact ⟨Nat.zero_le _, by show (y 2).val < 0 + 2048; omega⟩
  unfold clearOf VecWindow.put
  rw [dif_pos hh, dif_pos hh]

/-! ## The points -/

section
variable {tok : IVec S4x2048 32} {eg : FVec F S1024x1x2048 .f32} {cw : FVec F S4x1x2048 .f32} {cb : FVec F S1x1x2048 .f32}
  {xp : FVec F S2048x96 .f32} {dw : FVec F S64x2048 .f32} {db : FVec F S1x2048 .f32} {al : FVec F S16x2048 .f32}

/-- The scratch of a batch's first chunk. -/
theorem scr_zero {n : ℕ} (hn : n % 8 = 0) : scr tok eg n = gath tok eg (pt n) (clearOf blank) 256 := by
  cases n with
  | zero => rfl
  | succ n => rw [scr, if_pos hn]

/-- The scratch of a later chunk. -/
theorem scr_pos {n : ℕ} (hn : n % 8 ≠ 0) : scr tok eg n = gath tok eg (pt n) (tailOf (scr tok eg (n - 1))) 256 := by
  cases n with
  | zero => exact absurd rfl hn
  | succ n => rw [scr, if_neg hn]; rfl

/-- The state after a batch's first chunk. -/
theorem hAt_zero {n : ℕ} (hn : n % 8 = 0) :
    hAt tok eg cw cb xp dw db al n = stateOf xp dw db al (xcAt tok eg cw cb n) k1_pay13 := by
  cases n with
  | zero => rfl
  | succ n => rw [hAt, if_pos hn]

/-- The state after a later chunk. -/
theorem hAt_pos {n : ℕ} (hn : n % 8 ≠ 0) :
    hAt tok eg cw cb xp dw db al n = stateOf xp dw db al (xcAt tok eg cw cb n) (hAt tok eg cw cb xp dw db al (n - 1)) := by
  cases n with
  | zero => exact absurd rfl hn
  | succ n => rw [hAt, if_neg hn]; rfl

/-- From row 5 on, a batch's first chunk gathers `scr` whatever the scratch held. -/
theorem gath_scr_zero {n : ℕ} (hn : n % 8 = 0) (g : FVec F S264x1x2048 .f32) (y : S264x1x2048.Idx) (hy : 5 ≤ (y 0).val) :
    gath tok eg (pt n) (clearOf g) 256 y = scr tok eg n y := by
  rw [scr_zero hn]
  exact gath_congr tok eg (pt n) (fun y h5 h8 => clearOf_congr g blank y h5 h8) y hy

/-- From row 5 on, a later chunk gathers `scr` when the scratch holds the carried tail. -/
theorem gath_scr_pos {n : ℕ} (hn : n % 8 ≠ 0) {g : FVec F S264x1x2048 .f32} {h : FVec F S16x2048 .f32}
    (hc : Carried tok eg cw cb xp dw db al n g h) (y : S264x1x2048.Idx) (hy : 5 ≤ (y 0).val) :
    gath tok eg (pt n) g 256 y = scr tok eg n y := by
  rw [scr_pos hn]
  exact gath_congr tok eg (pt n) (hc hn).1 y hy

/-- What a point leaves is carried to the next. -/
theorem carried_succ {n : ℕ} {G : FVec F S264x1x2048 .f32} (hG : ∀ y : S264x1x2048.Idx, 5 ≤ (y 0).val → G y = scr tok eg n y) :
    Carried tok eg cw cb xp dw db al (n + 1) (tailOf G) (hAt tok eg cw cb xp dw db al n) := by
  intro _
  refine ⟨fun y h5 h8 => ?_, rfl⟩
  rw [tailOf_apply G y h5 h8, tailOf_apply _ y h5 h8]
  exact hG _ (by show 5 ≤ (y 0).val + 256; omega)

end

/-- The body's test is whether the chunk is its batch's first. -/
theorem cond_iff : ∀ t : Fin grid1.N, (Scalar.cmpi .ne (Scalar.extui (Scalar.cmpi .eq (BitVec.ofNat 32 (grid1.coords t 1).val) 0#32) : BitVec 32) 0#32 = 1#1)
    ↔ t.val % 8 = 0 := by
  decide +kernel

/-- Point `t` is point number `t`. -/
theorem pt_val (t : Fin grid1.N) : grid1.coords t = pt t.val := by
  unfold pt
  exact congrArg grid1.coords (Fin.ext (Nat.mod_eq_of_lt t.isLt).symm)

end Cert.KernelIdeal.Proof
-- ==== Proof.KernelIdeal.Regions.lean ====
/-
  The three pipelined calls: what each window's buffer holds at each grid point, and that each body keeps to it.
-/
module

public import proofs.«01_k».proof.Proof.KernelIdeal.Carry
public import proofs.«01_k».proof.Proof.Gen.KernelIdeal.Launch
public import proofs.«01_k».proof.Proof.Gen.KernelIdeal.Points
public import Idealize.ShloMosaic.Lib.Pipeline.ValueKit.Geometry
public import Idealize.ShloMosaic.Lib.Pipeline.FrameBody
public import Idealize.ShloMosaic.Lib.Pipeline.Kit

@[expose] public section

set_option maxRecDepth 16384

noncomputable section

namespace Cert.KernelIdeal.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Call 0 -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input 0's buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input 1's buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## Call 1 -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input 0's buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input 1's buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input 2's buffer holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input 3's buffer holds its block at every point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input 4's buffer holds its block at every point. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input 5's buffer holds its block at every point. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input 6's buffer holds its block at every point. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input 7's buffer holds its block at every point. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## Call 2 -/

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input 0's buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input 1's buffer holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input 2's buffer holds its block at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input 3's buffer holds its block at every point. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input 4's buffer holds its block at every point. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input 5's buffer holds its block at every point. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input 6's buffer holds its block at every point. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input 7's buffer holds its block at every point. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input 8's buffer holds its block at every point. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Input 9's buffer holds its block at every point. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-- Input 0 of call 1 is its whole array at every point. -/
theorem iblk1_0 (c : Dev nD) (t : Fin cfg1.N) : iblk1 V c 0 t = V c main_arg0 := by
  funext y
  have e : ∀ t : Fin cfg1.N, win1_0.index t = fun _ => 0 := (by decide +kernel : ∀ t : Fin grid1.N, _)
  unfold iblk1
  blk_simp
  refine congrArg (V c main_arg0) (funext fun a => Fin.ext ?_)
  have := congrFun (e t) a
  blk_simp [this]

/-- Input 1 of call 1 is its whole array at every point. -/
theorem iblk1_1 (c : Dev nD) (t : Fin cfg1.N) : iblk1 V c 1 t = V c main_v3 := by
  funext y
  have e : ∀ t : Fin cfg1.N, win1_1.index t = fun _ => 0 := (by decide +kernel : ∀ t : Fin grid1.N, _)
  unfold iblk1
  blk_simp
  refine congrArg (V c main_v3) (funext fun a => Fin.ext ?_)
  have := congrFun (e t) a
  blk_simp [this]

/-- Input 2 of call 1 is its whole array at every point. -/
theorem iblk1_2 (c : Dev nD) (t : Fin cfg1.N) : iblk1 V c 2 t = V c main_v5 := by
  funext y
  have e : ∀ t : Fin cfg1.N, win1_2.index t = fun _ => 0 := (by decide +kernel : ∀ t : Fin grid1.N, _)
  unfold iblk1
  blk_simp
  refine congrArg (V c main_v5) (funext fun a => Fin.ext ?_)
  have := congrFun (e t) a
  blk_simp [this]

/-- Input 3 of call 1 is its whole array at every point. -/
theorem iblk1_3 (c : Dev nD) (t : Fin cfg1.N) : iblk1 V c 3 t = V c main_v6 := by
  funext y
  have e : ∀ t : Fin cfg1.N, win1_3.index t = fun _ => 0 := (by decide +kernel : ∀ t : Fin grid1.N, _)
  unfold iblk1
  blk_simp
  refine congrArg (V c main_v6) (funext fun a => Fin.ext ?_)
  have := congrFun (e t) a
  blk_simp [this]

/-- Input 4 of call 1 is its whole array at every point. -/
theorem iblk1_4 (c : Dev nD) (t : Fin cfg1.N) : iblk1 V c 4 t = V c main_arg5 := by
  funext y
  have e : ∀ t : Fin cfg1.N, win1_4.index t = fun _ => 0 := (by decide +kernel : ∀ t : Fin grid1.N, _)
  unfold iblk1
  blk_simp
  refine congrArg (V c main_arg5) (funext fun a => Fin.ext ?_)
  have := congrFun (e t) a
  blk_simp [this]

/-- Input 5 of call 1 is its whole array at every point. -/
theorem iblk1_5 (c : Dev nD) (t : Fin cfg1.N) : iblk1 V c 5 t = V c main_arg6 := by
  funext y
  have e : ∀ t : Fin cfg1.N, win1_5.index t = fun _ => 0 := (by decide +kernel : ∀ t : Fin grid1.N, _)
  unfold iblk1
  blk_simp
  refine congrArg (V c main_arg6) (funext fun a => Fin.ext ?_)
  have := congrFun (e t) a
  blk_simp [this]

/-- Input 6 of call 1 is its whole array at every point. -/
theorem iblk1_6 (c : Dev nD) (t : Fin cfg1.N) : iblk1 V c 6 t = V c main_v7 := by
  funext y
  have e : ∀ t : Fin cfg1.N, win1_6.index t = fun _ => 0 := (by decide +kernel : ∀ t : Fin grid1.N, _)
  unfold iblk1
  blk_simp
  refine congrArg (V c main_v7) (funext fun a => Fin.ext ?_)
  have := congrFun (e t) a
  blk_simp [this]

/-- Input 7 of call 1 is its whole array at every point. -/
theorem iblk1_7 (c : Dev nD) (t : Fin cfg1.N) : iblk1 V c 7 t = V c main_v8 := by
  funext y
  have e : ∀ t : Fin cfg1.N, win1_7.index t = fun _ => 0 := (by decide +kernel : ∀ t : Fin grid1.N, _)
  unfold iblk1
  blk_simp
  refine congrArg (V c main_v8) (funext fun a => Fin.ext ?_)
  have := congrFun (e t) a
  blk_simp [this]

/-- Input 0 of call 2 is its whole array at every point. -/
theorem iblk2_0 (c : Dev nD) (t : Fin cfg2.N) : iblk2 V c 0 t = V c main_v12 := by
  funext y
  have e : ∀ t : Fin cfg2.N, win2_0.index t = fun _ => 0 := (by decide +kernel : ∀ t : Fin grid2.N, _)
  unfold iblk2
  blk_simp
  refine congrArg (V c main_v12) (funext fun a => Fin.ext ?_)
  have := congrFun (e t) a
  blk_simp [this]

/-- Input 1 of call 2 is its whole array at every point. -/
theorem iblk2_1 (c : Dev nD) (t : Fin cfg2.N) : iblk2 V c 1 t = V c main_v13 := by
  funext y
  have e : ∀ t : Fin cfg2.N, win2_1.index t = fun _ => 0 := (by decide +kernel : ∀ t : Fin grid2.N, _)
  unfold iblk2
  blk_simp
  refine congrArg (V c main_v13) (funext fun a => Fin.ext ?_)
  have := congrFun (e t) a
  blk_simp [this]

/-- Input 2 of call 2 is its whole array at every point. -/
theorem iblk2_2 (c : Dev nD) (t : Fin cfg2.N) : iblk2 V c 2 t = V c main_v1 := by
  funext y
  have e : ∀ t : Fin cfg2.N, win2_2.index t = fun _ => 0 := (by decide +kernel : ∀ t : Fin grid2.N, _)
  unfold iblk2
  blk_simp
  refine congrArg (V c main_v1) (funext fun a => Fin.ext ?_)
  have := congrFun (e t) a
  blk_simp [this]

/-- Input 3 of call 2 is its whole array at every point. -/
theorem iblk2_3 (c : Dev nD) (t : Fin cfg2.N) : iblk2 V c 3 t = V c main_v9_0 := by
  funext y
  have e : ∀ t : Fin cfg2.N, win2_3.index t = fun _ => 0 := (by decide +kernel : ∀ t : Fin grid2.N, _)
  unfold iblk2
  blk_simp
  refine congrArg (V c main_v9_0) (funext fun a => Fin.ext ?_)
  have := congrFun (e t) a
  blk_simp [this]

/-- Input 4 of call 2 is its whole array at every point. -/
theorem iblk2_4 (c : Dev nD) (t : Fin cfg2.N) : iblk2 V c 4 t = V c main_v14 := by
  funext y
  have e : ∀ t : Fin cfg2.N, win2_4.index t = fun _ => 0 := (by decide +kernel : ∀ t : Fin grid2.N, _)
  unfold iblk2
  blk_simp
  refine congrArg (V c main_v14) (funext fun a => Fin.ext ?_)
  have := congrFun (e t) a
  blk_simp [this]

/-- Input 5 of call 2 is its whole array at every point. -/
theorem iblk2_5 (c : Dev nD) (t : Fin cfg2.N) : iblk2 V c 5 t = V c main_v15 := by
  funext y
  have e : ∀ t : Fin cfg2.N, win2_5.index t = fun _ => 0 := (by decide +kernel : ∀ t : Fin grid2.N, _)
  unfold iblk2
  blk_simp
  refine congrArg (V c main_v15) (funext fun a => Fin.ext ?_)
  have := congrFun (e t) a
  blk_simp [this]

/-- Input 6 of call 2 is its whole array at every point. -/
theorem iblk2_6 (c : Dev nD) (t : Fin cfg2.N) : iblk2 V c 6 t = V c main_v16 := by
  funext y
  have e : ∀ t : Fin cfg2.N, win2_6.index t = fun _ => 0 := (by decide +kernel : ∀ t : Fin grid2.N, _)
  unfold iblk2
  blk_simp
  refine congrArg (V c main_v16) (funext fun a => Fin.ext ?_)
  have := congrFun (e t) a
  blk_simp [this]

/-- Input 7 of call 2 is its whole array at every point. -/
theorem iblk2_7 (c : Dev nD) (t : Fin cfg2.N) : iblk2 V c 7 t = V c main_arg10 := by
  funext y
  have e : ∀ t : Fin cfg2.N, win2_7.index t = fun _ => 0 := (by decide +kernel : ∀ t : Fin grid2.N, _)
  unfold iblk2
  blk_simp
  refine congrArg (V c main_arg10) (funext fun a => Fin.ext ?_)
  have := congrFun (e t) a
  blk_simp [this]

/-- Input 8 of call 2 is its whole array at every point. -/
theorem iblk2_8 (c : Dev nD) (t : Fin cfg2.N) : iblk2 V c 8 t = V c main_arg11 := by
  funext y
  have e : ∀ t : Fin cfg2.N, win2_8.index t = fun _ => 0 := (by decide +kernel : ∀ t : Fin grid2.N, _)
  unfold iblk2
  blk_simp
  refine congrArg (V c main_arg11) (funext fun a => Fin.ext ?_)
  have := congrFun (e t) a
  blk_simp [this]

/-- Input 9 of call 2 is its whole array at every point. -/
theorem iblk2_9 (c : Dev nD) (t : Fin cfg2.N) : iblk2 V c 9 t = V c main_v17 := by
  funext y
  have e : ∀ t : Fin cfg2.N, win2_9.index t = fun _ => 0 := (by decide +kernel : ∀ t : Fin grid2.N, _)
  unfold iblk2
  blk_simp
  refine congrArg (V c main_v17) (funext fun a => Fin.ext ?_)
  have := congrFun (e t) a
  blk_simp [this]

/-! ## What call 1 carries -/

/-- The state after point `n`, of the call's arrays. -/
def hV (c : Dev nD) (n : ℕ) : FVec F S16x2048 .f32 := hAt (V c main_arg0) (V c main_v3) (V c main_v5) (V c main_v6) (V c main_arg5) (V c main_arg6) (V c main_v7) (V c main_v8) n

/-- The convolved inputs of point `n`'s chunk, of the call's arrays. -/
def xV (c : Dev nD) (n : ℕ) : FVec F S256x2048 .f32 := xcAt (V c main_arg0) (V c main_v3) (V c main_v5) (V c main_v6) n

/-- The scratch and the state between points. -/
def CarriedV (c : Dev nD) (n : ℕ) (g : FVec F S264x1x2048 .f32) (h : FVec F S16x2048 .f32) : Prop :=
  Carried (V c main_arg0) (V c main_v3) (V c main_v5) (V c main_v6) (V c main_arg5) (V c main_arg6) (V c main_v7) (V c main_v8) n g h

/-- What the core holds beside the windows between the points of call 1: the scratches, of which the first and the last carry
contents from point to point, the other calls' buffers, and the generator register. -/
def Phi1 (c : Dev nD) (n : ℕ) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
    ∗ (∃ g h, ⌜CarriedV V c n g h⌝ ∗ owns (c : Thread nD τ) (Memref.whole cc1_scratch0) fullShare g
        ∗ owns (c : Thread nD τ) (Memref.whole cc1_scratch5) fullShare h)
    ∗ (∃ d, owns (c : Thread nD τ) (Memref.whole cc1_scratch1) fullShare d) ∗ (∃ d, owns (c : Thread nD τ) (Memref.whole cc1_scratch2) fullShare d) ∗ (∃ d, owns (c : Thread nD τ) (Memref.whole cc1_scratch3) fullShare d) ∗ (∃ d, owns (c : Thread nD τ) (Memref.whole cc1_scratch4) fullShare d)
    ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_stg8_0), ((c : Thread nD τ).loc cc2_stg8_0) ↦{fullShare} f) ∗ (∃ f : Buf (Elt F) ((c : Thread nD τ).loc cc2_stg9_0), ((c : Thread nD τ).loc cc2_stg9_0) ↦{fullShare} f) ∗ (∃ f : Buf (Elt F) ((c : Thread nD τ).loc cc2_stg10_0), ((c : Thread nD τ).loc cc2_stg10_0) ↦{fullShare} f) ∗ (∃ f : Buf (Elt F) ((c : Thread nD τ).loc cc2_stg0_0), ((c : Thread nD τ).loc cc2_stg0_0) ↦{fullShare} f) ∗ (∃ r, prngReg c r))

/-- The scratches as they stand in the launch's account, as memrefs. -/
theorem PhiA1_eq (c : Dev nD) :
    (Pipeline.ΦA spec1 c : sProp 𝕄) = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) (Memref.whole cc1_scratch0) fullShare d) ∗ (∃ d, owns (c : Thread nD τ) (Memref.whole cc1_scratch1) fullShare d) ∗ (∃ d, owns (c : Thread nD τ) (Memref.whole cc1_scratch2) fullShare d) ∗ (∃ d, owns (c : Thread nD τ) (Memref.whole cc1_scratch3) fullShare d) ∗ (∃ d, owns (c : Thread nD τ) (Memref.whole cc1_scratch4) fullShare d) ∗ (∃ d, owns (c : Thread nD τ) (Memref.whole cc1_scratch5) fullShare d) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_stg8_0), ((c : Thread nD τ).loc cc2_stg8_0) ↦{fullShare} f) ∗ (∃ f : Buf (Elt F) ((c : Thread nD τ).loc cc2_stg9_0), ((c : Thread nD τ).loc cc2_stg9_0) ↦{fullShare} f) ∗ (∃ f : Buf (Elt F) ((c : Thread nD τ).loc cc2_stg10_0), ((c : Thread nD τ).loc cc2_stg10_0) ↦{fullShare} f) ∗ (∃ f : Buf (Elt F) ((c : Thread nD τ).loc cc2_stg0_0), ((c : Thread nD τ).loc cc2_stg0_0) ↦{fullShare} f)) ∗ (∃ r, prngReg c r)) := by
  unfold Pipeline.ΦA
  rw [scopedRest1_eq]
  simp only [owns_whole]
  try rfl

/-- What the launch hands the call serves before its first point. -/
theorem Phi1_in (c : Dev nD) : (Pipeline.ΦA spec1 c : sProp 𝕄) ⊢ Phi1 V c 0 := by
  rw [PhiA1_eq]
  unfold Phi1
  iintro ⟨⟨B0, B1, B2, B3, B4, ⟨%g, S0⟩, S1, S2, S3, S4, ⟨%h, S5⟩, E0, E1, E2, E3, E4, E5, E6, E7, E8, E9, E10⟩, Hg⟩
  isplitl [B0]; · iexact B0
  isplitl [B1]; · iexact B1
  isplitl [B2]; · iexact B2
  isplitl [B3]; · iexact B3
  isplitl [B4]; · iexact B4
  isplitl [S0 S5]
  · iexists g, h
    isplitr
    · ipureintro; exact fun hn => absurd rfl hn
    isplitl [S0]; · iexact S0
    iexact S5
  isplitl [S1]; · iexact S1
  isplitl [S2]; · iexact S2
  isplitl [S3]; · iexact S3
  isplitl [S4]; · iexact S4
  isplitl [E0]; · iexact E0
  isplitl [E1]; · iexact E1
  isplitl [E2]; · iexact E2
  isplitl [E3]; · iexact E3
  isplitl [E4]; · iexact E4
  isplitl [E5]; · iexact E5
  isplitl [E6]; · iexact E6
  isplitl [E7]; · iexact E7
  isplitl [E8]; · iexact E8
  isplitl [E9]; · iexact E9
  isplitl [E10]; · iexact E10
  iexact Hg

/-- After any point it goes back, the contents forgotten. -/
theorem Phi1_out (c : Dev nD) (n : ℕ) : Phi1 V c n ⊢ (Pipeline.ΦA spec1 c : sProp 𝕄) := by
  rw [PhiA1_eq]
  unfold Phi1
  iintro ⟨B0, B1, B2, B3, B4, ⟨%g, %h, -, S0, S5⟩, S1, S2, S3, S4, E0, E1, E2, E3, E4, E5, E6, E7, E8, E9, E10, Hg⟩
  isplitr [Hg]; swap; · iexact Hg
  isplitl [B0]; · iexact B0
  isplitl [B1]; · iexact B1
  isplitl [B2]; · iexact B2
  isplitl [B3]; · iexact B3
  isplitl [B4]; · iexact B4
  isplitl [S0]; · iexists g; iexact S0
  isplitl [S1]; · iexact S1
  isplitl [S2]; · iexact S2
  isplitl [S3]; · iexact S3
  isplitl [S4]; · iexact S4
  isplitl [S5]; · iexists h; iexact S5
  isplitl [E0]; · iexact E0
  isplitl [E1]; · iexact E1
  isplitl [E2]; · iexact E2
  isplitl [E3]; · iexact E3
  isplitl [E4]; · iexact E4
  isplitl [E5]; · iexact E5
  isplitl [E6]; · iexact E6
  isplitl [E7]; · iexact E7
  isplitl [E8]; · iexact E8
  isplitl [E9]; · iexact E9
  iexact E10

/-! ## The proof data of call 0 -/

/-- The arrays as the call finds them; after point `t` each input's buffer at its block, each output's at what the body stores. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

/-- Call 0 begins with the arrays as it finds them. -/
theorem A_eq0 (c : Dev nD) (w : Fin cfg0.W) : (dat0 V c).A w = V c (Pipeline.arrRef spec0 w) := by
  dsimp only [dat0]
/-- The body leaves input 0's block as it was. -/
theorem after0_0 (c : Dev nD) (t : Fin cfg0.N) : (dat0 V c).after 0 t = iblk0 V c 0 t := by dsimp only [dat0]
/-- The body leaves input 1's block as it was. -/
theorem after0_1 (c : Dev nD) (t : Fin cfg0.N) : (dat0 V c).after 1 t = iblk0 V c 1 t := by dsimp only [dat0]
/-- After its body call 0's output 2 holds the block of the projected table. -/
theorem after0_2 (c : Dev nD) (t : Fin cfg0.N) : (dat0 V c).after 2 t = k0_pay1 (iblk0 V c 0 t) (iblk0 V c 1 t) := by dsimp only [dat0]
/-- Before the body input 0 holds its block. -/
theorem before0_0 (c : Dev nD) (t : Fin cfg0.N) (d) : (dat0 V c).before 0 t d = iblk0 V c 0 t :=
  before0_0_of V (dat0 V c) (A_eq0 V c 0) (after0_0 V c) t d
/-- Before the body input 1 holds its block. -/
theorem before0_1 (c : Dev nD) (t : Fin cfg0.N) (d) : (dat0 V c).before 1 t d = iblk0 V c 1 t :=
  before0_1_of V (dat0 V c) (A_eq0 V c 1) (after0_1 V c) t d

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 1000000 in
/-- The body at any point. -/
theorem sound_body0 (c : Dev nD) (t : Fin cfg0.N) :
    bodyPre0 V c t ⊢ wp Idealize.ShloMosaic.frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl,
    after0_0, after0_1, after0_2]
  rw [show (dat0 V c).Φ t.succ = (dat0 V c).Φ t.castSucc from rfl]
  iintro ⟨HΦ, Ho, ⟨%d0, H0⟩, ⟨%d1, H1⟩, ⟨%d2, H2⟩⟩
  iapply (sound0 c (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- Call 0's body is the program's at that point. -/
theorem defs₀_row0 (t : Fin cfg0.N) :
    defs₀ (F := F) .tc cfg0.body (cfg0.bodyArgs t (cfg0.slots t)) = bodyAt0 t := by
  unfold defs₀; rw [Defs.onTc_tc]

/-- The body keeps to the proof data at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! ## The proof data of call 1 -/

/-- The arrays as the call finds them; after point `t` each input's buffer at its block, each output's at what the body stores. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => k1_pay2 (hV V c t.val)
    | ⟨9, _⟩ => k1_pay3 (lastRow (xV V c t.val))
  Φ t := Phi1 V c t.val
  q _ := fullShare
  owed _ := 0

/-- Call 1 begins with the arrays as it finds them. -/
theorem A_eq1 (c : Dev nD) (w : Fin cfg1.W) : (dat1 V c).A w = V c (Pipeline.arrRef spec1 w) := by
  dsimp only [dat1]
/-- The body leaves input 0's block as it was. -/
theorem after1_0 (c : Dev nD) (t : Fin cfg1.N) : (dat1 V c).after 0 t = iblk1 V c 0 t := by dsimp only [dat1]
/-- The body leaves input 1's block as it was. -/
theorem after1_1 (c : Dev nD) (t : Fin cfg1.N) : (dat1 V c).after 1 t = iblk1 V c 1 t := by dsimp only [dat1]
/-- The body leaves input 2's block as it was. -/
theorem after1_2 (c : Dev nD) (t : Fin cfg1.N) : (dat1 V c).after 2 t = iblk1 V c 2 t := by dsimp only [dat1]
/-- The body leaves input 3's block as it was. -/
theorem after1_3 (c : Dev nD) (t : Fin cfg1.N) : (dat1 V c).after 3 t = iblk1 V c 3 t := by dsimp only [dat1]
/-- The body leaves input 4's block as it was. -/
theorem after1_4 (c : Dev nD) (t : Fin cfg1.N) : (dat1 V c).after 4 t = iblk1 V c 4 t := by dsimp only [dat1]
/-- The body leaves input 5's block as it was. -/
theorem after1_5 (c : Dev nD) (t : Fin cfg1.N) : (dat1 V c).after 5 t = iblk1 V c 5 t := by dsimp only [dat1]
/-- The body leaves input 6's block as it was. -/
theorem after1_6 (c : Dev nD) (t : Fin cfg1.N) : (dat1 V c).after 6 t = iblk1 V c 6 t := by dsimp only [dat1]
/-- The body leaves input 7's block as it was. -/
theorem after1_7 (c : Dev nD) (t : Fin cfg1.N) : (dat1 V c).after 7 t = iblk1 V c 7 t := by dsimp only [dat1]
/-- After its body call 1's output 8 holds the new state. -/
theorem after1_8 (c : Dev nD) (t : Fin cfg1.N) : (dat1 V c).after 8 t = k1_pay2 (hV V c t.val) := by dsimp only [dat1]
/-- After its body call 1's output 9 holds the chunk's last row. -/
theorem after1_9 (c : Dev nD) (t : Fin cfg1.N) : (dat1 V c).after 9 t = k1_pay3 (lastRow (xV V c t.val)) := by dsimp only [dat1]
/-- Before the body input 0 holds its block. -/
theorem before1_0 (c : Dev nD) (t : Fin cfg1.N) (d) : (dat1 V c).before 0 t d = iblk1 V c 0 t :=
  before1_0_of V (dat1 V c) (A_eq1 V c 0) (after1_0 V c) t d
/-- Before the body input 1 holds its block. -/
theorem before1_1 (c : Dev nD) (t : Fin cfg1.N) (d) : (dat1 V c).before 1 t d = iblk1 V c 1 t :=
  before1_1_of V (dat1 V c) (A_eq1 V c 1) (after1_1 V c) t d
/-- Before the body input 2 holds its block. -/
theorem before1_2 (c : Dev nD) (t : Fin cfg1.N) (d) : (dat1 V c).before 2 t d = iblk1 V c 2 t :=
  before1_2_of V (dat1 V c) (A_eq1 V c 2) (after1_2 V c) t d
/-- Before the body input 3 holds its block. -/
theorem before1_3 (c : Dev nD) (t : Fin cfg1.N) (d) : (dat1 V c).before 3 t d = iblk1 V c 3 t :=
  before1_3_of V (dat1 V c) (A_eq1 V c 3) (after1_3 V c) t d
/-- Before the body input 4 holds its block. -/
theorem before1_4 (c : Dev nD) (t : Fin cfg1.N) (d) : (dat1 V c).before 4 t d = iblk1 V c 4 t :=
  before1_4_of V (dat1 V c) (A_eq1 V c 4) (after1_4 V c) t d
/-- Before the body input 5 holds its block. -/
theorem before1_5 (c : Dev nD) (t : Fin cfg1.N) (d) : (dat1 V c).before 5 t d = iblk1 V c 5 t :=
  before1_5_of V (dat1 V c) (A_eq1 V c 5) (after1_5 V c) t d
/-- Before the body input 6 holds its block. -/
theorem before1_6 (c : Dev nD) (t : Fin cfg1.N) (d) : (dat1 V c).before 6 t d = iblk1 V c 6 t :=
  before1_6_of V (dat1 V c) (A_eq1 V c 6) (after1_6 V c) t d
/-- Before the body input 7 holds its block. -/
theorem before1_7 (c : Dev nD) (t : Fin cfg1.N) (d) : (dat1 V c).before 7 t d = iblk1 V c 7 t :=
  before1_7_of V (dat1 V c) (A_eq1 V c 7) (after1_7 V c) t d

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 1000000 in
/-- The body at any point. -/
theorem sound_body1 (c : Dev nD) (htok : ∀ y, (V c main_arg0 y : BitVec 32).toNat < 1024) (t : Fin cfg1.N) :
    bodyPre1 V c t ⊢ wp Idealize.ShloMosaic.frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl,
    after1_0, after1_1, after1_2, after1_3, after1_4, after1_5, after1_6, after1_7, after1_8, after1_9]
  rw [show (dat1 V c).Φ t.succ = Phi1 V c (t.val + 1) from rfl, show (dat1 V c).Φ t.castSucc = Phi1 V c t.val from rfl]
  simp only [iblk1_0, iblk1_1, iblk1_2, iblk1_3, iblk1_4, iblk1_5, iblk1_6, iblk1_7]
  unfold Phi1
  iintro ⟨⟨B0, B1, B2, B3, B4, ⟨%g, %h, %hc, S0, S5⟩, S1, S2, S3, S4, E0, E1, E2, E3, E4, E5, E6, E7, E8, E9, E10, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  by_cases h0 : t.val % 8 = 0
  · have h5 : ∀ y : S264x1x2048.Idx, 5 ≤ (y 0).val → gath (V c main_arg0) (V c main_v3) (grid1.coords t) (clearOf g) 256 y = scr (V c main_arg0) (V c main_v3) t.val y := by
      rw [pt_val t]
      exact gath_scr_zero h0 g
    have hx : xcOf (V c main_v5) (V c main_v6) (gath (V c main_arg0) (V c main_v3) (grid1.coords t) (clearOf g) 256) = xV V c t.val := xcOf_congr _ _ h5
    have hs : stateOf (V c main_arg5) (V c main_arg6) (V c main_v7) (V c main_v8) (xV V c t.val) k1_pay13 = hV V c t.val := (hAt_zero h0).symm
    iapply (sound1_zero c (grid1.coords t) _ _ _ _ _ _ _ _ _ _ _ _ _ _ _ _ _ _ _ _ _ _ _ _ _ _ _ _ _ _ _ _ ((cond_iff t).mpr h0) (V c main_arg0) (V c main_v3) (V c main_v5) (V c main_v6) (V c main_arg5) (V c main_arg6) (V c main_v7) (V c main_v8) g h htok _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [S0]; · iexact S0
    isplitl [S1]; · iexact S1
    isplitl [S2]; · iexact S2
    isplitl [S3]; · iexact S3
    isplitl [S4]; · iexact S4
    isplitl [S5]; · iexact S5
    rw [hx, hs]
    iintro ⟨H0, H1, H2, H3, H4, H5, H6, H7, H8, H9, S0, S1, S2, S3, S4, S5⟩
    isplitl [B0 B1 B2 B3 B4 S0 S1 S2 S3 S4 S5 E0 E1 E2 E3 E4 E5 E6 E7 E8 E9 E10 Hg]
    · skip
      isplitl [B0]; · iexact B0
      isplitl [B1]; · iexact B1
      isplitl [B2]; · iexact B2
      isplitl [B3]; · iexact B3
      isplitl [B4]; · iexact B4
      isplitl [S0 S5]
      · iexists _, _
        isplitr
        · ipureintro; exact carried_succ h5
        isplitl [S0]; · iexact S0
        iexact S5
      isplitl [S1]; · iexact S1
      isplitl [S2]; · iexact S2
      isplitl [S3]; · iexact S3
      isplitl [S4]; · iexact S4
      isplitl [E0]; · iexact E0
      isplitl [E1]; · iexact E1
      isplitl [E2]; · iexact E2
      isplitl [E3]; · iexact E3
      isplitl [E4]; · iexact E4
      isplitl [E5]; · iexact E5
      isplitl [E6]; · iexact E6
      isplitl [E7]; · iexact E7
      isplitl [E8]; · iexact E8
      isplitl [E9]; · iexact E9
      isplitl [E10]; · iexact E10
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have h5 : ∀ y : S264x1x2048.Idx, 5 ≤ (y 0).val → gath (V c main_arg0) (V c main_v3) (grid1.coords t) g 256 y = scr (V c main_arg0) (V c main_v3) t.val y := by
      rw [pt_val t]
      exact gath_scr_pos h0 hc
    have hx : xcOf (V c main_v5) (V c main_v6) (gath (V c main_arg0) (V c main_v3) (grid1.coords t) g 256) = xV V c t.val := xcOf_congr _ _ h5
    have hs : stateOf (V c main_arg5) (V c main_arg6) (V c main_v7) (V c main_v8) (xV V c t.val) h = hV V c t.val := by
      rw [(hc h0).2]
      exact (hAt_pos h0).symm
    iapply (sound1_pos c (grid1.coords t) _ _ _ _ _ _ _ _ _ _ _ _ _ _ _ _ _ _ _ _ _ _ _ _ _ _ _ _ _ _ _ _ (fun h => h0 ((cond_iff t).mp h)) (V c main_arg0) (V c main_v3) (V c main_v5) (V c main_v6) (V c main_arg5) (V c main_arg6) (V c main_v7) (V c main_v8) g h htok _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [S0]; · iexact S0
    isplitl [S1]; · iexact S1
    isplitl [S2]; · iexact S2
    isplitl [S3]; · iexact S3
    isplitl [S4]; · iexact S4
    isplitl [S5]; · iexact S5
    rw [hx, hs]
    iintro ⟨H0, H1, H2, H3, H4, H5, H6, H7, H8, H9, S0, S1, S2, S3, S4, S5⟩
    isplitl [B0 B1 B2 B3 B4 S0 S1 S2 S3 S4 S5 E0 E1 E2 E3 E4 E5 E6 E7 E8 E9 E10 Hg]
    · skip
      isplitl [B0]; · iexact B0
      isplitl [B1]; · iexact B1
      isplitl [B2]; · iexact B2
      isplitl [B3]; · iexact B3
      isplitl [B4]; · iexact B4
      isplitl [S0 S5]
      · iexists _, _
        isplitr
        · ipureintro; exact carried_succ h5
        isplitl [S0]; · iexact S0
        iexact S5
      isplitl [S1]; · iexact S1
      isplitl [S2]; · iexact S2
      isplitl [S3]; · iexact S3
      isplitl [S4]; · iexact S4
      isplitl [E0]; · iexact E0
      isplitl [E1]; · iexact E1
      isplitl [E2]; · iexact E2
      isplitl [E3]; · iexact E3
      isplitl [E4]; · iexact E4
      isplitl [E5]; · iexact E5
      isplitl [E6]; · iexact E6
      isplitl [E7]; · iexact E7
      isplitl [E8]; · iexact E8
      isplitl [E9]; · iexact E9
      isplitl [E10]; · iexact E10
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- Call 1's body is the program's at that point. -/
theorem defs₀_row1 (t : Fin cfg1.N) :
    defs₀ (F := F) .tc cfg1.body (cfg1.bodyArgs t (cfg1.slots t)) = bodyAt1 t := by
  unfold defs₀; rw [Defs.onTc_tc]

/-- The body keeps to the proof data at every point. -/
theorem body_obligation1 (c : Dev nD) (htok : ∀ y, (V c main_arg0 y : BitVec 32).toNat < 1024) : BodyObligation (dat1 (F := F) V c) (defs₀ (F := F)) Variants.none () Set.univ := fun t => by
  rw [bigSep_W1, bigSep_W1, defs₀_row1]
  exact triple_restated (sound_body1 V c htok t) rfl .rfl fun _ => .rfl

/-! ## The proof data of call 2 -/

/-- The arrays as the call finds them; after point `t` each input's buffer at its block, each output's at what the body stores. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => epi (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
  Φ _ := Pipeline.ΦA spec2 c
  q _ := fullShare
  owed _ := 0

/-- Call 2 begins with the arrays as it finds them. -/
theorem A_eq2 (c : Dev nD) (w : Fin cfg2.W) : (dat2 V c).A w = V c (Pipeline.arrRef spec2 w) := by
  dsimp only [dat2]
/-- The body leaves input 0's block as it was. -/
theorem after2_0 (c : Dev nD) (t : Fin cfg2.N) : (dat2 V c).after 0 t = iblk2 V c 0 t := by dsimp only [dat2]
/-- The body leaves input 1's block as it was. -/
theorem after2_1 (c : Dev nD) (t : Fin cfg2.N) : (dat2 V c).after 1 t = iblk2 V c 1 t := by dsimp only [dat2]
/-- The body leaves input 2's block as it was. -/
theorem after2_2 (c : Dev nD) (t : Fin cfg2.N) : (dat2 V c).after 2 t = iblk2 V c 2 t := by dsimp only [dat2]
/-- The body leaves input 3's block as it was. -/
theorem after2_3 (c : Dev nD) (t : Fin cfg2.N) : (dat2 V c).after 3 t = iblk2 V c 3 t := by dsimp only [dat2]
/-- The body leaves input 4's block as it was. -/
theorem after2_4 (c : Dev nD) (t : Fin cfg2.N) : (dat2 V c).after 4 t = iblk2 V c 4 t := by dsimp only [dat2]
/-- The body leaves input 5's block as it was. -/
theorem after2_5 (c : Dev nD) (t : Fin cfg2.N) : (dat2 V c).after 5 t = iblk2 V c 5 t := by dsimp only [dat2]
/-- The body leaves input 6's block as it was. -/
theorem after2_6 (c : Dev nD) (t : Fin cfg2.N) : (dat2 V c).after 6 t = iblk2 V c 6 t := by dsimp only [dat2]
/-- The body leaves input 7's block as it was. -/
theorem after2_7 (c : Dev nD) (t : Fin cfg2.N) : (dat2 V c).after 7 t = iblk2 V c 7 t := by dsimp only [dat2]
/-- The body leaves input 8's block as it was. -/
theorem after2_8 (c : Dev nD) (t : Fin cfg2.N) : (dat2 V c).after 8 t = iblk2 V c 8 t := by dsimp only [dat2]
/-- The body leaves input 9's block as it was. -/
theorem after2_9 (c : Dev nD) (t : Fin cfg2.N) : (dat2 V c).after 9 t = iblk2 V c 9 t := by dsimp only [dat2]
/-- After its body call 2's output 10 holds the logits. -/
theorem after2_10 (c : Dev nD) (t : Fin cfg2.N) : (dat2 V c).after 10 t = epi (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]
/-- Before the body input 0 holds its block. -/
theorem before2_0 (c : Dev nD) (t : Fin cfg2.N) (d) : (dat2 V c).before 0 t d = iblk2 V c 0 t :=
  before2_0_of V (dat2 V c) (A_eq2 V c 0) (after2_0 V c) t d
/-- Before the body input 1 holds its block. -/
theorem before2_1 (c : Dev nD) (t : Fin cfg2.N) (d) : (dat2 V c).before 1 t d = iblk2 V c 1 t :=
  before2_1_of V (dat2 V c) (A_eq2 V c 1) (after2_1 V c) t d
/-- Before the body input 2 holds its block. -/
theorem before2_2 (c : Dev nD) (t : Fin cfg2.N) (d) : (dat2 V c).before 2 t d = iblk2 V c 2 t :=
  before2_2_of V (dat2 V c) (A_eq2 V c 2) (after2_2 V c) t d
/-- Before the body input 3 holds its block. -/
theorem before2_3 (c : Dev nD) (t : Fin cfg2.N) (d) : (dat2 V c).before 3 t d = iblk2 V c 3 t :=
  before2_3_of V (dat2 V c) (A_eq2 V c 3) (after2_3 V c) t d
/-- Before the body input 4 holds its block. -/
theorem before2_4 (c : Dev nD) (t : Fin cfg2.N) (d) : (dat2 V c).before 4 t d = iblk2 V c 4 t :=
  before2_4_of V (dat2 V c) (A_eq2 V c 4) (after2_4 V c) t d
/-- Before the body input 5 holds its block. -/
theorem before2_5 (c : Dev nD) (t : Fin cfg2.N) (d) : (dat2 V c).before 5 t d = iblk2 V c 5 t :=
  before2_5_of V (dat2 V c) (A_eq2 V c 5) (after2_5 V c) t d
/-- Before the body input 6 holds its block. -/
theorem before2_6 (c : Dev nD) (t : Fin cfg2.N) (d) : (dat2 V c).before 6 t d = iblk2 V c 6 t :=
  before2_6_of V (dat2 V c) (A_eq2 V c 6) (after2_6 V c) t d
/-- Before the body input 7 holds its block. -/
theorem before2_7 (c : Dev nD) (t : Fin cfg2.N) (d) : (dat2 V c).before 7 t d = iblk2 V c 7 t :=
  before2_7_of V (dat2 V c) (A_eq2 V c 7) (after2_7 V c) t d
/-- Before the body input 8 holds its block. -/
theorem before2_8 (c : Dev nD) (t : Fin cfg2.N) (d) : (dat2 V c).before 8 t d = iblk2 V c 8 t :=
  before2_8_of V (dat2 V c) (A_eq2 V c 8) (after2_8 V c) t d
/-- Before the body input 9 holds its block. -/
theorem before2_9 (c : Dev nD) (t : Fin cfg2.N) (d) : (dat2 V c).before 9 t d = iblk2 V c 9 t :=
  before2_9_of V (dat2 V c) (A_eq2 V c 9) (after2_9 V c) t d

/-- What the body is called with at point `t`. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

/-- What it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

set_option maxHeartbeats 1000000 in
/-- The body at any point. -/
theorem sound_body2 (c : Dev nD) (htok : ∀ y, (V c main_v12 y : BitVec 32).toNat < 1024) (t : Fin cfg2.N) :
    bodyPre2 V c t ⊢ wp Idealize.ShloMosaic.frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).owesAt () t.succ = (dat2 V c).owesAt () t.castSucc from rfl,
    after2_0, after2_1, after2_2, after2_3, after2_4, after2_5, after2_6, after2_7, after2_8, after2_9, after2_10]
  rw [show (dat2 V c).Φ t.succ = (dat2 V c).Φ t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound2 c _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (by intro y; rw [iblk2_0]; exact htok y) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- Call 2's body is the program's at that point. -/
theorem defs₀_row2 (t : Fin cfg2.N) :
    defs₀ (F := F) .tc cfg2.body (cfg2.bodyArgs t (cfg2.slots t)) = bodyAt2 t := by
  unfold defs₀; rw [Defs.onTc_tc]

/-- The body keeps to the proof data at every point. -/
theorem body_obligation2 (c : Dev nD) (htok : ∀ y, (V c main_v12 y : BitVec 32).toNat < 1024) : BodyObligation (dat2 (F := F) V c) (defs₀ (F := F)) Variants.none () Set.univ := fun t => by
  rw [bigSep_W2, bigSep_W2, defs₀_row2]
  exact triple_restated (sound_body2 V c htok t) rfl .rfl fun _ => .rfl

end Cert.KernelIdeal.Proof
-- ==== Proof.KernelIdeal.Launch.lean ====
/-
  The whole run: the contents of the arrays between the stretches of host operations and the three calls, and what the run ends with.
-/
module

public import proofs.«01_k».proof.Proof.KernelIdeal.Regions
public import proofs.«01_k».proof.Proof.Gen.KernelIdeal.Regions
public import Idealize.ShloMosaic.Lib.Pipeline.Frame
public import Idealize.ShloMosaic.Lib.Pipeline.Regions
public import Idealize.ShloMosaic.Lib.Pipeline.RegionsLoop
public import Idealize.ShloMosaic.Lib.Pipeline.FrameSuffix
public import Idealize.ShloMosaic.Lib.Claim
public import Idealize.ShloMosaic.Lib.Pipeline.FrameBody
public import Idealize.ShloMosaic.Lib.Pipeline.Kit

@[expose] public section

set_option maxRecDepth 16384

noncomputable section

namespace Cert.KernelIdeal.Proof

open Cert.KernelIdeal
open Cert.KernelIdeal.Gen hiding V0 V1 V2 V3 V4 V5 V6 segs adm
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The thirteen argument arrays. -/
abbrev argRefs : List (Ref sig .tc) := [main_arg0, main_arg1, main_arg2, main_arg3, main_arg4, main_arg5, main_arg6, main_arg7, main_arg8, main_arg9, main_arg10, main_arg11, main_arg12]

/-! ## The contents between the segments -/

/-- At the start. -/
abbrev B0 (c : Dev nD) : Valuation τ sig (Elt F) := fun b => m ((c : Dev nD), b)

/-- After the stretch before call 0. -/
abbrev B1 (c : Dev nD) : Valuation τ sig (Elt F) := StableHlo.after hostOps0 (B0 m c)
/-- What call 0 finds. -/
abbrev E0 : (c : Dev nD) → (b : Ref sig .tc) → Buf (Elt F) ((c : Thread nD τ).loc b) := fun c b => B1 m c b
/-- A reference that the stretch does not write keeps its contents. -/
theorem B1_of (c : Dev nD) (r : Ref sig .tc) (h : r ∉ hostOps0_W) : B1 m c (Proc.devRef .tc r) = B0 m c (Proc.devRef .tc r) :=
  StableHlo.after_of_writes_sub hostOps0 _ hostOps0_writes h
/-- After call 0: its arrays as the blocks written leave them, every other one as before. -/
def B2 (c : Dev nD) : Valuation τ sig (Elt F) :=
  Pipeline.withArrays spec0 c (B1 m c) fun w => (dat0 (E0 m) c).arrAt w cfg0.N
/-- After call 0 each of its arrays is as its blocks leave it. -/
theorem B2_arr (c : Dev nD) (w : Fin cfg0.W) :
    B2 m c (Proc.devRef .tc (Pipeline.arrRef spec0 w)) = (dat0 (E0 m) c).arrAt w cfg0.N := by
  unfold B2; exact Pipeline.withArrays_arr spec0 launch0.win.arr_inj c _ _ w
/-- Call 0 leaves every other array as it was. -/
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
/-- A reference that is no output array of the call keeps its contents. -/
theorem B2_of (c : Dev nD) (r : Ref sig .tc) (h : ∀ w : Fin cfg0.W, Pipeline.arrRef spec0 w = r → (cfg0.win w).isOut = false) :
    B2 m c (Proc.devRef .tc r) = B1 m c (Proc.devRef .tc r) := by
  by_cases hw : ∃ w : Fin cfg0.W, Pipeline.arrRef spec0 w = r
  · obtain ⟨w, rfl⟩ := hw
    exact (B2_arr m c w).trans (((dat0 (E0 m) c).arrAt_in w (h w rfl) _).trans (A_eq0 (E0 m) c w))
  · exact B2_of_ne m c r fun w e => hw ⟨w, e⟩
/-- The contents after call 0, at the references of the core. -/
abbrev X0 : (c : Dev nD) → (b : Ref sig .tc) → Buf (Elt F) ((c : Thread nD τ).loc b) := fun c b => B2 m c b
/-- Call 0's arrays at its end. -/
theorem hF0 (c : Dev nD) (w : Fin cfg0.W) : (dat0 (E0 m) c).arrAt w cfg0.N = X0 m c (Pipeline.arrRef spec0 w) :=
  (B2_arr m c w).symm
/-- The arrays that call 0 leaves alone. -/
theorem hrest0 (c : Dev nD) : ∀ b, b ∉ Finset.univ.image (Pipeline.arrRef spec0) → X0 m c b = E0 m c b :=
  fun b hb => B2_of_ne m c b fun w e => hb (Finset.mem_image.mpr ⟨w, Finset.mem_univ _, e⟩)
/-- Call 0 only reads the arguments. -/
theorem argsIn0 : ∀ a ∈ argRefs, ∀ w : Fin cfg0.W, Pipeline.arrRef spec0 w = a → (cfg0.win w).isOut = false :=
  ListAll.forall_mem_of_all_decide (by decide +kernel)
/-- The stretch before call 0 writes no argument. -/
theorem notW0 : ∀ a ∈ argRefs, a ∉ hostOps0_W := ListAll.forall_mem_of_all_decide (by decide +kernel)
/-- The arguments are untouched up to here. -/
theorem B1_args (c : Dev nD) : ∀ a ∈ argRefs, B1 m c (Proc.devRef .tc a) = m ((c : Thread nD τ).loc a) :=
  fun a ha => (B1_of m c a (notW0 a ha)).trans (rfl)
/-- After call 0 an argument is as it was. -/
theorem B2_args (c : Dev nD) : ∀ a ∈ argRefs, B2 m c (Proc.devRef .tc a) = m ((c : Thread nD τ).loc a) :=
  fun a ha => (B2_of m c a (argsIn0 a ha)).trans (B1_args m c a ha)

/-- After the stretch before call 1. -/
abbrev B3 (c : Dev nD) : Valuation τ sig (Elt F) := StableHlo.after hostOps1 (B2 m c)
/-- What call 1 finds. -/
abbrev E1 : (c : Dev nD) → (b : Ref sig .tc) → Buf (Elt F) ((c : Thread nD τ).loc b) := fun c b => B3 m c b
/-- A reference that the stretch does not write keeps its contents. -/
theorem B3_of (c : Dev nD) (r : Ref sig .tc) (h : r ∉ hostOps1_W) : B3 m c (Proc.devRef .tc r) = B2 m c (Proc.devRef .tc r) :=
  StableHlo.after_of_writes_sub hostOps1 _ hostOps1_writes h
/-- After call 1: its arrays as the blocks written leave them, every other one as before. -/
def B4 (c : Dev nD) : Valuation τ sig (Elt F) :=
  Pipeline.withArrays spec1 c (B3 m c) fun w => (dat1 (E1 m) c).arrAt w cfg1.N
/-- After call 1 each of its arrays is as its blocks leave it. -/
theorem B4_arr (c : Dev nD) (w : Fin cfg1.W) :
    B4 m c (Proc.devRef .tc (Pipeline.arrRef spec1 w)) = (dat1 (E1 m) c).arrAt w cfg1.N := by
  unfold B4; exact Pipeline.withArrays_arr spec1 launch1.win.arr_inj c _ _ w
/-- Call 1 leaves every other array as it was. -/
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
/-- A reference that is no output array of the call keeps its contents. -/
theorem B4_of (c : Dev nD) (r : Ref sig .tc) (h : ∀ w : Fin cfg1.W, Pipeline.arrRef spec1 w = r → (cfg1.win w).isOut = false) :
    B4 m c (Proc.devRef .tc r) = B3 m c (Proc.devRef .tc r) := by
  by_cases hw : ∃ w : Fin cfg1.W, Pipeline.arrRef spec1 w = r
  · obtain ⟨w, rfl⟩ := hw
    exact (B4_arr m c w).trans (((dat1 (E1 m) c).arrAt_in w (h w rfl) _).trans (A_eq1 (E1 m) c w))
  · exact B4_of_ne m c r fun w e => hw ⟨w, e⟩
/-- The contents after call 1, at the references of the core. -/
abbrev X1 : (c : Dev nD) → (b : Ref sig .tc) → Buf (Elt F) ((c : Thread nD τ).loc b) := fun c b => B4 m c b
/-- Call 1's arrays at its end. -/
theorem hF1 (c : Dev nD) (w : Fin cfg1.W) : (dat1 (E1 m) c).arrAt w cfg1.N = X1 m c (Pipeline.arrRef spec1 w) :=
  (B4_arr m c w).symm
/-- The arrays that call 1 leaves alone. -/
theorem hrest1 (c : Dev nD) : ∀ b, b ∉ Finset.univ.image (Pipeline.arrRef spec1) → X1 m c b = E1 m c b :=
  fun b hb => B4_of_ne m c b fun w e => hb (Finset.mem_image.mpr ⟨w, Finset.mem_univ _, e⟩)
/-- Call 1 only reads the arguments. -/
theorem argsIn1 : ∀ a ∈ argRefs, ∀ w : Fin cfg1.W, Pipeline.arrRef spec1 w = a → (cfg1.win w).isOut = false :=
  ListAll.forall_mem_of_all_decide (by decide +kernel)
/-- The stretch before call 1 writes no argument. -/
theorem notW1 : ∀ a ∈ argRefs, a ∉ hostOps1_W := ListAll.forall_mem_of_all_decide (by decide +kernel)
/-- The arguments are untouched up to here. -/
theorem B3_args (c : Dev nD) : ∀ a ∈ argRefs, B3 m c (Proc.devRef .tc a) = m ((c : Thread nD τ).loc a) :=
  fun a ha => (B3_of m c a (notW1 a ha)).trans (B2_args m c a ha)
/-- After call 1 an argument is as it was. -/
theorem B4_args (c : Dev nD) : ∀ a ∈ argRefs, B4 m c (Proc.devRef .tc a) = m ((c : Thread nD τ).loc a) :=
  fun a ha => (B4_of m c a (argsIn1 a ha)).trans (B3_args m c a ha)

/-- After the stretch before call 2. -/
abbrev B5 (c : Dev nD) : Valuation τ sig (Elt F) := StableHlo.after hostOps2 (B4 m c)
/-- What call 2 finds. -/
abbrev E2 : (c : Dev nD) → (b : Ref sig .tc) → Buf (Elt F) ((c : Thread nD τ).loc b) := fun c b => B5 m c b
/-- A reference that the stretch does not write keeps its contents. -/
theorem B5_of (c : Dev nD) (r : Ref sig .tc) (h : r ∉ hostOps2_W) : B5 m c (Proc.devRef .tc r) = B4 m c (Proc.devRef .tc r) :=
  StableHlo.after_of_writes_sub hostOps2 _ hostOps2_writes h
/-- After call 2: its arrays as the blocks written leave them, every other one as before. -/
def B6 (c : Dev nD) : Valuation τ sig (Elt F) :=
  Pipeline.withArrays spec2 c (B5 m c) fun w => (dat2 (E2 m) c).arrAt w cfg2.N
/-- After call 2 each of its arrays is as its blocks leave it. -/
theorem B6_arr (c : Dev nD) (w : Fin cfg2.W) :
    B6 m c (Proc.devRef .tc (Pipeline.arrRef spec2 w)) = (dat2 (E2 m) c).arrAt w cfg2.N := by
  unfold B6; exact Pipeline.withArrays_arr spec2 launch2.win.arr_inj c _ _ w
/-- Call 2 leaves every other array as it was. -/
theorem B6_of_ne (c : Dev nD) (b : Ref sig .tc) (hb : ∀ w, Pipeline.arrRef spec2 w ≠ b) :
    B6 m c (Proc.devRef .tc b) = B5 m c (Proc.devRef .tc b) := by
  unfold B6; exact Pipeline.withArrays_of_ne spec2 c _ _ b hb
/-- A reference that is no output array of the call keeps its contents. -/
theorem B6_of (c : Dev nD) (r : Ref sig .tc) (h : ∀ w : Fin cfg2.W, Pipeline.arrRef spec2 w = r → (cfg2.win w).isOut = false) :
    B6 m c (Proc.devRef .tc r) = B5 m c (Proc.devRef .tc r) := by
  by_cases hw : ∃ w : Fin cfg2.W, Pipeline.arrRef spec2 w = r
  · obtain ⟨w, rfl⟩ := hw
    exact (B6_arr m c w).trans (((dat2 (E2 m) c).arrAt_in w (h w rfl) _).trans (A_eq2 (E2 m) c w))
  · exact B6_of_ne m c r fun w e => hw ⟨w, e⟩
/-- The contents after call 2, at the references of the core. -/
abbrev X2 : (c : Dev nD) → (b : Ref sig .tc) → Buf (Elt F) ((c : Thread nD τ).loc b) := fun c b => B6 m c b
/-- Call 2's arrays at its end. -/
theorem hF2 (c : Dev nD) (w : Fin cfg2.W) : (dat2 (E2 m) c).arrAt w cfg2.N = X2 m c (Pipeline.arrRef spec2 w) :=
  (B6_arr m c w).symm
/-- The arrays that call 2 leaves alone. -/
theorem hrest2 (c : Dev nD) : ∀ b, b ∉ Finset.univ.image (Pipeline.arrRef spec2) → X2 m c b = E2 m c b :=
  fun b hb => B6_of_ne m c b fun w e => hb (Finset.mem_image.mpr ⟨w, Finset.mem_univ _, e⟩)
/-- Call 2 only reads the arguments. -/
theorem argsIn2 : ∀ a ∈ argRefs, ∀ w : Fin cfg2.W, Pipeline.arrRef spec2 w = a → (cfg2.win w).isOut = false :=
  ListAll.forall_mem_of_all_decide (by decide +kernel)
/-- The stretch before call 2 writes no argument. -/
theorem notW2 : ∀ a ∈ argRefs, a ∉ hostOps2_W := ListAll.forall_mem_of_all_decide (by decide +kernel)
/-- The arguments are untouched up to here. -/
theorem B5_args (c : Dev nD) : ∀ a ∈ argRefs, B5 m c (Proc.devRef .tc a) = m ((c : Thread nD τ).loc a) :=
  fun a ha => (B5_of m c a (notW2 a ha)).trans (B4_args m c a ha)
/-- After call 2 an argument is as it was. -/
theorem B6_args (c : Dev nD) : ∀ a ∈ argRefs, B6 m c (Proc.devRef .tc a) = m ((c : Thread nD τ).loc a) :=
  fun a ha => (B6_of m c a (argsIn2 a ha)).trans (B5_args m c a ha)

/-! ## The tokens that the calls read are the argument's -/

/-- Every token of the argument is a row of the table. -/
def InRange : Prop := ∀ (c : Dev nD) (y), (m ((c : Thread nD τ).loc main_arg0) y : BitVec 32).toNat < 1024

/-- The tokens that call 1 reads are in range. -/
theorem tok1 (h : InRange m) (c : Dev nD) : ∀ y, (E1 m c main_arg0 y : BitVec 32).toNat < 1024 := by
  intro y
  have e : E1 m c main_arg0 = m ((c : Thread nD τ).loc main_arg0) := B3_args m c main_arg0 (by decide)
  rw [e]; exact h c y

/-- The last call's four tokens are the last column of the argument. -/
theorem E2_tokens (c : Dev nD) : E2 m c main_v12 = shapeCast S1x4 (shapeCast S4 (extractStridedSlice S4x1 ![0, 2047] (B4 m c (Proc.devRef .tc main_arg0)) slices_S4x2048_S4x1_0_2047) shapeCasts_S4x1_S4) shapeCasts_S4_S1x4 := by
  unfold_abbrev_sides
  after_results
  rfl

/-- The tokens that call 2 reads are in range. -/
theorem tok2 (h : InRange m) (c : Dev nD) : ∀ y, (E2 m c main_v12 y : BitVec 32).toNat < 1024 := by
  intro y
  rw [E2_tokens, B4_args m c main_arg0 (by decide)]
  unfold shapeCast extractStridedSlice
  exact h c _

/-! ## The proof data of the calls and the state between segments -/

/-- The calls, as the launch rule takes them. -/
abbrev adm : (p : Fin 3) → (pcfgs (F := F) p).Adm := fun p => (cfgs p).toPCfg_adm
/-- Each call's proof data at what it finds. -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
/-- No variant is needed. -/
abbrev 𝒱₀ : Variants := Variants.none
/-- No counter has a waiter. -/
abbrev L : GSem nD τ sig → Finset Unit := fun _ => ∅
/-- All levels are zero. -/
abbrev lv : GSem nD τ sig → Unit → ℕ := fun _ _ => 0
/-- Beside the buffers: the generator register, and nothing owed. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An array outside every scope is one of the launch's. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state. -/
abbrev Tₙ (c : Dev nD) : sProp 𝕄 := iprop(StableHlo.held (c : Thread nD τ) (Pipeline.ucRefs τ sig) (B6 m c) ∗ ∃ r, prngReg c r)

/-! ## The calls as segments -/

set_option backward.isDefEq.respectTransparency.types false in
/-- Call 0, entered from every array at `B1` and left at `B2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) (A_eq0 (E0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1, entered from every array at `B3` and left at `B4`. -/
def reg1 (htok : InRange m) : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c (tok1 m htok c)).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) (A_eq1 (E1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Phi1 (E1 m) c 0 from rfl]
    refine BIBase.Entails.trans ?_ (Phi1_in (E1 m) c)
    unfold Pipeline.ΦA
    iintro ⟨Hp, -, Hr⟩
    isplitl [Hr]; · iexact Hr
    iexact Hp
  hout c := by
    rw [Pipeline.ownSems0_none, show (pdats m 1 c).Φ (Fin.last _) = Phi1 (E1 m) c 32 from rfl]
    refine (Phi1_out (E1 m) c 32).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2, entered from every array at `B5` and left at `B6`. -/
def reg2 (htok : InRange m) : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) c (tok2 m htok c)).loose
  hwaits := Pipeline.hwaits_of_owed_zero _ _ _ _ L lv 2 fun _ _ => rfl
  pre c := iprop(StableHlo.held (c : Thread nD τ) (Pipeline.ucRefs τ sig) (B5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) (A_eq2 (E2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (X2 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- The program's six segments. -/
abbrev segs (htok : InRange m) : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m htok),
    .host (hseg hostOps2 hostOps2_sub hostOps2_fresh (B4 m)),
    .region (reg2 m htok) ]
/-- The program is the run of its segments. -/
theorem main_run (htok : InRange m) (c : Dev nD) : main (F := F) c = Pipeline.Seg.run (segs m htok) := (main_chain c).trans (by chain_rfl)

/-- Every counter belongs to a scope. -/
theorem no_unscoped : ∀ sm : SemLoc sig, sm.isScoped .tc = true := by decide

set_option backward.isDefEq.respectTransparency.types false in
/-- From any memory whose tokens are rows of the table, with the counters at zero, every run terminates without a fault; at the
end every array that outlives the calls holds `B6`, and every counter is at zero. -/
theorem run_all (htok : InRange m) : θ_run defs (onTc (τ := τ) (main (F := F))) ⟨m, fun _ => 0, ρ⟩ (fun r =>
      (∀ c : Dev nD, ∀ b ∈ Pipeline.ucRefs τ sig, r.2.mem (((c : Thread nD τ)).1, b) = B6 m c b)
      ∧ r.2.sem = fun _ => 0) :=
  Pipeline.θ_run_regions_kit_sems (pcfgs (F := F)) adm (pdats m) () cellOf_inj emb₁ defs₀ 𝒱₀ L lv m ρ main (segs m htok)
    (fun c Q => by rw [main_run m htok c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m c b)
    (hfin := fun c s' => by
      iintro ⟨⟨Hh, -⟩, HSI⟩
      unfold StableHlo.held
      imodintro
      iapply (pointsTo_read_all (Pipeline.ucRefs τ sig) (fun b => (((c : Thread nD τ)).1, b)) (B6 m c) s')
      isplitl [Hh] <;> iassumption)
    (hQ := fun s h hz => ⟨h, funext fun g => hz g (.inr (no_unscoped g.2))⟩)

/-- Every run leaves each argument as it was and every counter at zero. -/
theorem args_kept (htok : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => ⟨fun c => ⟨(h.1 c _ (mem_uc main_arg0 (by decide))).trans (B6_args m c main_arg0 (by decide)), (h.1 c _ (mem_uc main_arg1 (by decide))).trans (B6_args m c main_arg1 (by decide)), (h.1 c _ (mem_uc main_arg2 (by decide))).trans (B6_args m c main_arg2 (by decide)), (h.1 c _ (mem_uc main_arg3 (by decide))).trans (B6_args m c main_arg3 (by decide)), (h.1 c _ (mem_uc main_arg4 (by decide))).trans (B6_args m c main_arg4 (by decide)), (h.1 c _ (mem_uc main_arg5 (by decide))).trans (B6_args m c main_arg5 (by decide)), (h.1 c _ (mem_uc main_arg6 (by decide))).trans (B6_args m c main_arg6 (by decide)), (h.1 c _ (mem_uc main_arg7 (by decide))).trans (B6_args m c main_arg7 (by decide)), (h.1 c _ (mem_uc main_arg8 (by decide))).trans (B6_args m c main_arg8 (by decide)), (h.1 c _ (mem_uc main_arg9 (by decide))).trans (B6_args m c main_arg9 (by decide)), (h.1 c _ (mem_uc main_arg10 (by decide))).trans (B6_args m c main_arg10 (by decide)), (h.1 c _ (mem_uc main_arg11 (by decide))).trans (B6_args m c main_arg11 (by decide)), (h.1 c _ (mem_uc main_arg12 (by decide))).trans (B6_args m c main_arg12 (by decide))⟩, h.2⟩) (run_all m ρ htok)

/-- Every run ends with the result array at `B6`, and each argument as it was. -/
theorem result_run (htok : InRange m) : θ_run defs (onTc (τ := τ) (main (F := F))) ⟨m, fun _ => 0, ρ⟩ (fun r => ∀ c : Dev nD,
      r.2.mem ((c.tc : Thread nD τ).loc main_v18) = B6 m c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨h.1 c _ (mem_uc main_v18 (by decide)), (h.1 c _ (mem_uc main_arg0 (by decide))).trans (B6_args m c main_arg0 (by decide)), (h.1 c _ (mem_uc main_arg1 (by decide))).trans (B6_args m c main_arg1 (by decide)), (h.1 c _ (mem_uc main_arg2 (by decide))).trans (B6_args m c main_arg2 (by decide)), (h.1 c _ (mem_uc main_arg3 (by decide))).trans (B6_args m c main_arg3 (by decide)), (h.1 c _ (mem_uc main_arg4 (by decide))).trans (B6_args m c main_arg4 (by decide)), (h.1 c _ (mem_uc main_arg5 (by decide))).trans (B6_args m c main_arg5 (by decide)), (h.1 c _ (mem_uc main_arg6 (by decide))).trans (B6_args m c main_arg6 (by decide)), (h.1 c _ (mem_uc main_arg7 (by decide))).trans (B6_args m c main_arg7 (by decide)), (h.1 c _ (mem_uc main_arg8 (by decide))).trans (B6_args m c main_arg8 (by decide)), (h.1 c _ (mem_uc main_arg9 (by decide))).trans (B6_args m c main_arg9 (by decide)), (h.1 c _ (mem_uc main_arg10 (by decide))).trans (B6_args m c main_arg10 (by decide)), (h.1 c _ (mem_uc main_arg11 (by decide))).trans (B6_args m c main_arg11 (by decide)), (h.1 c _ (mem_uc main_arg12 (by decide))).trans (B6_args m c main_arg12 (by decide))⟩) (run_all m ρ htok)

end Cert.KernelIdeal.Proof
-- ==== Proof.ReferenceIdeal.Kept.lean ====
/-
  The reference program leaves its arguments as they were: none of its operations writes one.
-/
module

public import proofs.«01_k».proof.Proof.Gen.ReferenceIdeal.Run
public import Idealize.ShloMosaic.Lib.Quiescent

@[expose] public section

set_option maxRecDepth 16384

noncomputable section

namespace Cert.ReferenceIdeal.Proof

open Cert.ReferenceIdeal Cert.ReferenceIdeal.Gen Cert.ReferenceIdeal.Value
open Idealize.ShloMosaic Idealize.ShloMosaic.TcCoe Idealize.ShloMosaic.Tactic
open Idealize.SL Idealize.SL.Sem
open Idealize.ShloMosaic.StableHlo
open Idealize.ShloMosaic.Pipeline (ucRefs sub_ucRefs)

variable {F : FTy → Type} [FloatOps F]

/-- The thirteen argument arrays. -/
abbrev argRefs : List (Ref sig .tc) := [main_arg0, main_arg1, main_arg2, main_arg3, main_arg4, main_arg5, main_arg6, main_arg7, main_arg8, main_arg9, main_arg10, main_arg11, main_arg12]

/-- The arguments and the arrays computed before the loop that the operations after it read. -/
abbrev keptRefs : List (Ref sig .tc) := [main_arg0, main_arg1, main_arg2, main_arg3, main_arg4, main_arg5, main_arg6, main_arg7, main_arg8, main_arg9, main_arg10, main_arg11, main_arg12, main_v43, main_v9]

/-- Stretch 0 writes no argument. -/
theorem pre0_args (V : Valuation τ sig (Elt F)) : ∀ a ∈ argRefs, after hostOps0 V (Proc.devRef .tc a) = V (Proc.devRef .tc a) :=
  fun a ha => after_of_writes_sub _ V hostOps0_writes ((ListAll.forall_mem_of_all_decide (by decide +kernel) : ∀ a ∈ argRefs, a ∉ hostOps0_W) a ha)

/-- Stretch 1 writes no argument. -/
theorem pre1_args (V : Valuation τ sig (Elt F)) : ∀ a ∈ argRefs, after hostOps0_1 V (Proc.devRef .tc a) = V (Proc.devRef .tc a) :=
  fun a ha => after_of_writes_sub _ V hostOps0_1_writes ((ListAll.forall_mem_of_all_decide (by decide +kernel) : ∀ a ∈ argRefs, a ∉ hostOps0_1_W) a ha)

/-- Stretch 2 writes no argument. -/
theorem pre2_args (V : Valuation τ sig (Elt F)) : ∀ a ∈ argRefs, after hostOps0_2 V (Proc.devRef .tc a) = V (Proc.devRef .tc a) :=
  fun a ha => after_of_writes_sub _ V hostOps0_2_writes ((ListAll.forall_mem_of_all_decide (by decide +kernel) : ∀ a ∈ argRefs, a ∉ hostOps0_2_W) a ha)

/-- Stretch 3 writes no argument. -/
theorem pre3_args (V : Valuation τ sig (Elt F)) : ∀ a ∈ argRefs, after hostOps0_3 V (Proc.devRef .tc a) = V (Proc.devRef .tc a) :=
  fun a ha => after_of_writes_sub _ V hostOps0_3_writes ((ListAll.forall_mem_of_all_decide (by decide +kernel) : ∀ a ∈ argRefs, a ∉ hostOps0_3_W) a ha)

/-- Stretch 4 writes no argument. -/
theorem pre4_args (V : Valuation τ sig (Elt F)) : ∀ a ∈ argRefs, after hostOps0_4 V (Proc.devRef .tc a) = V (Proc.devRef .tc a) :=
  fun a ha => after_of_writes_sub _ V hostOps0_4_writes ((ListAll.forall_mem_of_all_decide (by decide +kernel) : ∀ a ∈ argRefs, a ∉ hostOps0_4_W) a ha)

/-- Stretch 5 writes no argument. -/
theorem pre5_args (V : Valuation τ sig (Elt F)) : ∀ a ∈ argRefs, after hostOps0_5 V (Proc.devRef .tc a) = V (Proc.devRef .tc a) :=
  fun a ha => after_of_writes_sub _ V hostOps0_5_writes ((ListAll.forall_mem_of_all_decide (by decide +kernel) : ∀ a ∈ argRefs, a ∉ hostOps0_5_W) a ha)

/-- Stretch 6 writes no argument. -/
theorem pre6_args (V : Valuation τ sig (Elt F)) : ∀ a ∈ argRefs, after hostOps0_6 V (Proc.devRef .tc a) = V (Proc.devRef .tc a) :=
  fun a ha => after_of_writes_sub _ V hostOps0_6_writes ((ListAll.forall_mem_of_all_decide (by decide +kernel) : ∀ a ∈ argRefs, a ∉ hostOps0_6_W) a ha)

/-- What stretch 7 writes, in order. -/
abbrev post7_W : List (Ref sig .tc) := [main_v62, main_v63, main_v64, main_v65, main_v66]
/-- Stretch 7 writes no more than that. -/
theorem post7_writes : (hostOps0_7 : List (HloOp τ sig (Elt F))).Forall fun op => op.writes ⊆ (post7_W.map (Proc.devRef (τ := τ) .tc)).toFinset :=
  StableHlo.forall_writes_sub_of_map rfl
/-- Stretch 7 writes no argument. -/
theorem post7_args (V : Valuation τ sig (Elt F)) : ∀ a ∈ argRefs, after hostOps0_7 V (Proc.devRef .tc a) = V (Proc.devRef .tc a) :=
  fun a ha => after_of_writes_sub _ V post7_writes ((ListAll.forall_mem_of_all_decide (by decide +kernel) : ∀ a ∈ argRefs, a ∉ post7_W) a ha)

/-- What stretch 8 writes, in order. -/
abbrev post8_W : List (Ref sig .tc) := [main_call8_v0, main_call8_v1, main_call8_cst, main_call8_v2, main_call8_v3, main_call8_cst_0, main_call8_v4, main_call8_v5, main_v67]
/-- Stretch 8 writes no more than that. -/
theorem post8_writes : (hostOps0_8 : List (HloOp τ sig (Elt F))).Forall fun op => op.writes ⊆ (post8_W.map (Proc.devRef (τ := τ) .tc)).toFinset :=
  StableHlo.forall_writes_sub_of_map rfl
/-- Stretch 8 writes no argument. -/
theorem post8_args (V : Valuation τ sig (Elt F)) : ∀ a ∈ argRefs, after hostOps0_8 V (Proc.devRef .tc a) = V (Proc.devRef .tc a) :=
  fun a ha => after_of_writes_sub _ V post8_writes ((ListAll.forall_mem_of_all_decide (by decide +kernel) : ∀ a ∈ argRefs, a ∉ post8_W) a ha)

/-- What stretch 9 writes, in order. -/
abbrev post9_W : List (Ref sig .tc) := [main_v68, main_v69, main_v70, main_v71, main_v72, main_v73, main_v74, main_v75]
/-- Stretch 9 writes no more than that. -/
theorem post9_writes : (hostOps0_9 : List (HloOp τ sig (Elt F))).Forall fun op => op.writes ⊆ (post9_W.map (Proc.devRef (τ := τ) .tc)).toFinset :=
  StableHlo.forall_writes_sub_of_map rfl
/-- Stretch 9 writes no argument. -/
theorem post9_args (V : Valuation τ sig (Elt F)) : ∀ a ∈ argRefs, after hostOps0_9 V (Proc.devRef .tc a) = V (Proc.devRef .tc a) :=
  fun a ha => after_of_writes_sub _ V post9_writes ((ListAll.forall_mem_of_all_decide (by decide +kernel) : ∀ a ∈ argRefs, a ∉ post9_W) a ha)

/-- Part 0 of the loop's body writes none of the kept arrays. -/
theorem body0_keep (V : Valuation τ sig (Elt F)) : ∀ a ∈ keptRefs, after while0Ops0 V (Proc.devRef .tc a) = V (Proc.devRef .tc a) :=
  fun a ha => after_of_writes_sub _ V while0Ops0_writes ((ListAll.forall_mem_of_all_decide (by decide +kernel) : ∀ a ∈ keptRefs, a ∉ while0Ops0_W) a ha)

/-- Part 1 of the loop's body writes none of the kept arrays. -/
theorem body1_keep (V : Valuation τ sig (Elt F)) : ∀ a ∈ keptRefs, after while0Ops0_1 V (Proc.devRef .tc a) = V (Proc.devRef .tc a) :=
  fun a ha => after_of_writes_sub _ V while0Ops0_1_writes ((ListAll.forall_mem_of_all_decide (by decide +kernel) : ∀ a ∈ keptRefs, a ∉ while0Ops0_1_W) a ha)

/-- Part 2 of the loop's body writes none of the kept arrays. -/
theorem body2_keep (V : Valuation τ sig (Elt F)) : ∀ a ∈ keptRefs, after while0Ops0_2 V (Proc.devRef .tc a) = V (Proc.devRef .tc a) :=
  fun a ha => after_of_writes_sub _ V while0Ops0_2_writes ((ListAll.forall_mem_of_all_decide (by decide +kernel) : ∀ a ∈ keptRefs, a ∉ while0Ops0_2_W) a ha)

/-- Part 3 of the loop's body writes none of the kept arrays. -/
theorem body3_keep (V : Valuation τ sig (Elt F)) : ∀ a ∈ keptRefs, after while0Ops0_3 V (Proc.devRef .tc a) = V (Proc.devRef .tc a) :=
  fun a ha => after_of_writes_sub _ V while0Ops0_3_writes ((ListAll.forall_mem_of_all_decide (by decide +kernel) : ∀ a ∈ keptRefs, a ∉ while0Ops0_3_W) a ha)

/-- Part 4 of the loop's body writes none of the kept arrays. -/
theorem body4_keep (V : Valuation τ sig (Elt F)) : ∀ a ∈ keptRefs, after while0Ops0_4 V (Proc.devRef .tc a) = V (Proc.devRef .tc a) :=
  fun a ha => after_of_writes_sub _ V while0Ops0_4_writes ((ListAll.forall_mem_of_all_decide (by decide +kernel) : ∀ a ∈ keptRefs, a ∉ while0Ops0_4_W) a ha)

/-- Part 5 of the loop's body writes none of the kept arrays. -/
theorem body5_keep (V : Valuation τ sig (Elt F)) : ∀ a ∈ keptRefs, after while0Ops0_5 V (Proc.devRef .tc a) = V (Proc.devRef .tc a) :=
  fun a ha => after_of_writes_sub _ V while0Ops0_5_writes ((ListAll.forall_mem_of_all_decide (by decide +kernel) : ∀ a ∈ keptRefs, a ∉ while0Ops0_5_W) a ha)

/-- Part 6 of the loop's body writes none of the kept arrays. -/
theorem body6_keep (V : Valuation τ sig (Elt F)) : ∀ a ∈ keptRefs, after while0Ops0_6 V (Proc.devRef .tc a) = V (Proc.devRef .tc a) :=
  fun a ha => after_of_writes_sub _ V while0Ops0_6_writes ((ListAll.forall_mem_of_all_decide (by decide +kernel) : ∀ a ∈ keptRefs, a ∉ while0Ops0_6_W) a ha)

/-- The loop's condition writes none of the kept arrays. -/
theorem cond_keep (V : Valuation τ sig (Elt F)) : ∀ a ∈ keptRefs, after condOps V (Proc.devRef .tc a) = V (Proc.devRef .tc a) :=
  fun a ha => after_of_writes_sub _ V condOps_writes ((ListAll.forall_mem_of_all_decide (by decide +kernel) : ∀ a ∈ keptRefs, a ∉ condOps_W) a ha)

variable (m : (ℓ : Loc nD τ sig) → Buf (Elt F) ℓ) (ρ : Dev nD → PrngReg)

/-- The stretches before the loop leave an argument as it was. -/
theorem entry_args (c : Dev nD) : ∀ a ∈ argRefs, entryContents preI m c (Proc.devRef .tc a) = m ((c : Thread nD τ).loc a) := by
  intro a ha
  unfold entryContents preI
  simp only [afterL_cons, afterL_nil]
  rw [pre6_args _ a ha, pre5_args _ a ha, pre4_args _ a ha, pre3_args _ a ha, pre2_args _ a ha, pre1_args _ a ha, pre0_args _ a ha]

/-- The loop leaves what it does not write as it was. -/
theorem atK_keep (c : Dev nD) : ∀ k, ∀ a ∈ keptRefs, atK m k c (Proc.devRef .tc a) = entryContents preI m c (Proc.devRef .tc a)
  | 0, _, _ => rfl
  | k + 1, a, ha => by
    refine Eq.trans ?_ (atK_keep c k a ha)
    unfold atK
    rw [atTrip_succ]
    unfold bodyI
    simp only [afterL_cons, afterL_nil]
    rw [body6_keep _ a ha, body5_keep _ a ha, body4_keep _ a ha, body3_keep _ a ha, body2_keep _ a ha, body1_keep _ a ha, body0_keep _ a ha,
      cond_keep _ a ha]

/-- The arguments are among the kept arrays. -/
theorem argRefs_kept : ∀ a ∈ argRefs, a ∈ keptRefs := ListAll.forall_mem_of_all_decide (by decide +kernel)

/-- At the end an argument is as it was. -/
theorem final_args (c : Dev nD) : ∀ a ∈ argRefs, finalContents condOps preI bodyI postI 2048 m c (Proc.devRef .tc a) = m ((c : Thread nD τ).loc a) := by
  intro a ha
  unfold finalContents postI
  simp only [afterL_cons, afterL_nil]
  rw [post9_args _ a ha, post8_args _ a ha, post7_args _ a ha, cond_keep _ a (argRefs_kept a ha)]
  exact (atK_keep m c 2048 a (argRefs_kept a ha)).trans (entry_args m c a ha)

/-- Every run of the reference leaves each argument as it was and every counter at zero. -/
theorem args_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => ⟨fun c => ⟨(h c main_arg0 rfl).trans (final_args m c main_arg0 (by decide)), (h c main_arg1 rfl).trans (final_args m c main_arg1 (by decide)), (h c main_arg2 rfl).trans (final_args m c main_arg2 (by decide)), (h c main_arg3 rfl).trans (final_args m c main_arg3 (by decide)), (h c main_arg4 rfl).trans (final_args m c main_arg4 (by decide)), (h c main_arg5 rfl).trans (final_args m c main_arg5 (by decide)), (h c main_arg6 rfl).trans (final_args m c main_arg6 (by decide)), (h c main_arg7 rfl).trans (final_args m c main_arg7 (by decide)), (h c main_arg8 rfl).trans (final_args m c main_arg8 (by decide)), (h c main_arg9 rfl).trans (final_args m c main_arg9 (by decide)), (h c main_arg10 rfl).trans (final_args m c main_arg10 (by decide)), (h c main_arg11 rfl).trans (final_args m c main_arg11 (by decide)), (h c main_arg12 rfl).trans (final_args m c main_arg12 (by decide))⟩,
    sem_eq_zero_of_no_sems (by decide) _⟩) (run_fold m ρ)

/-- Every run of the reference ends with the result array at the fold of its operations, and each argument as it was. -/
theorem result_run : θ_run defs (onTc (τ := τ) (main (F := F))) ⟨m, fun _ => 0, ρ⟩ (fun r => ∀ c : Dev nD,
      r.2.mem ((c.tc : Thread nD τ).loc main_v75) = finalContents condOps preI bodyI postI 2048 m c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨h c main_v75 rfl, (h c main_arg0 rfl).trans (final_args m c main_arg0 (by decide)), (h c main_arg1 rfl).trans (final_args m c main_arg1 (by decide)), (h c main_arg2 rfl).trans (final_args m c main_arg2 (by decide)), (h c main_arg3 rfl).trans (final_args m c main_arg3 (by decide)), (h c main_arg4 rfl).trans (final_args m c main_arg4 (by decide)), (h c main_arg5 rfl).trans (final_args m c main_arg5 (by decide)), (h c main_arg6 rfl).trans (final_args m c main_arg6 (by decide)), (h c main_arg7 rfl).trans (final_args m c main_arg7 (by decide)), (h c main_arg8 rfl).trans (final_args m c main_arg8 (by decide)), (h c main_arg9 rfl).trans (final_args m c main_arg9 (by decide)), (h c main_arg10 rfl).trans (final_args m c main_arg10 (by decide)), (h c main_arg11 rfl).trans (final_args m c main_arg11 (by decide)), (h c main_arg12 rfl).trans (final_args m c main_arg12 (by decide))⟩) (run_fold m ρ)

end Cert.ReferenceIdeal.Proof
-- ==== Proof.Scan.lean ====
/-
  The selective scan over the extended reals: what one step does to a state, and what a block of steps does at once.
-/
module

public import Idealize.ShloMosaic.Lib.Pointwise

@[expose] public section

noncomputable section

namespace Cert.Scan

open Idealize.ShloMosaic

/-! ## Exponentials -/

/-- An exponential is not negative. -/
theorem exp_nonneg (x : EReal) : 0 ≤ Ideal.exp x := by
  induction x with
  | bot => exact le_rfl
  | top => exact le_top
  | coe r => exact EReal.coe_nonneg.mpr (Real.exp_pos r).le

/-- The exponential of what is at most zero is finite. -/
theorem exp_ne_top {x : EReal} (h : x ≤ 0) : Ideal.exp x ≠ ⊤ := by
  induction x with
  | bot => exact EReal.zero_ne_top
  | top => exact absurd h (by simp)
  | coe r => exact EReal.coe_ne_top _

/-- The exponential of zero is one. -/
theorem exp_zero : Ideal.exp 0 = 1 := by
  show ((Real.exp 0 : ℝ) : EReal) = 1
  rw [Real.exp_zero]
  rfl

/-- The exponential of a sum of two terms at most zero is the product of their exponentials. -/
theorem exp_add {x y : EReal} (hx : x ≤ 0) (hy : y ≤ 0) : Ideal.exp (x + y) = Ideal.exp x * Ideal.exp y := by
  induction x with
  | bot =>
    rw [EReal.bot_add]
    exact (zero_mul _).symm
  | top => exact absurd hx (by simp)
  | coe r =>
    induction y with
    | bot =>
      rw [EReal.add_bot]
      exact (mul_zero _).symm
    | top => exact absurd hy (by simp)
    | coe s =>
      rw [← EReal.coe_add]
      show ((Real.exp (r + s) : ℝ) : EReal) = (Real.exp r : EReal) * (Real.exp s : EReal)
      rw [Real.exp_add, EReal.coe_mul]

/-- A logarithm of one plus something not negative is not negative. -/
theorem log1p_nonneg {x : EReal} (h : 0 ≤ x) : 0 ≤ Ideal.log1p x := by
  unfold Ideal.log1p
  induction x with
  | bot => exact absurd h (by simp)
  | top =>
    rw [show (1 : EReal) + ⊤ = ⊤ from EReal.add_top_of_ne_bot (by exact EReal.coe_ne_bot 1)]
    exact le_top
  | coe r =>
    have hr : (0 : ℝ) ≤ r := EReal.coe_nonneg.mp h
    rw [show (1 : EReal) + (r : EReal) = ((1 + r : ℝ) : EReal) from (EReal.coe_add 1 r).symm]
    show (0 : EReal) ≤ if 1 + r ≤ 0 then ⊥ else (Real.log (1 + r) : EReal)
    rw [if_neg (by linarith)]
    exact EReal.coe_nonneg.mpr (Real.log_nonneg (by linarith))

/-! ## Distribution -/

/-- A finite factor that is not negative distributes over a sum. -/
theorem mul_sum_of {ι : Type} (s : Finset ι) (f : ι → EReal) {e : EReal} (h0 : 0 ≤ e) (ht : e ≠ ⊤) :
    e * ∑ i ∈ s, f i = ∑ i ∈ s, e * f i := by
  classical
  induction s using Finset.induction_on with
  | empty => simp
  | insert a s ha ih =>
    rw [Finset.sum_insert ha, Finset.sum_insert ha, EReal.left_distrib_of_nonneg_of_ne_top h0 ht, ih]

/-! ## The scan -/

/-- One step: the state decays by the step size and takes in the input. -/
def step (a δ g h : EReal) : EReal := Ideal.exp (δ * a) * h + g

/-- The state after `k` steps of sizes `δ` and inputs `g`, from `h`. -/
def steps (a : EReal) (δ g : ℕ → EReal) (h : EReal) : ℕ → EReal
  | 0 => h
  | k + 1 => step a (δ k) (g k) (steps a δ g h k)

/-- Steps after steps. -/
theorem steps_add (a : EReal) (δ g : ℕ → EReal) (h : EReal) (j : ℕ) : ∀ k,
    steps a δ g h (j + k) = steps a (fun t => δ (j + t)) (fun t => g (j + t)) (steps a δ g h j) k
  | 0 => rfl
  | k + 1 => by
    rw [← Nat.add_assoc]
    show step a (δ (j + k)) (g (j + k)) (steps a δ g h (j + k)) = _
    rw [steps_add a δ g h j k]
    rfl

/-- Steps read the sizes and inputs before their number only. -/
theorem steps_congr {a : EReal} {δ δ' g g' : ℕ → EReal} (h : EReal) : ∀ k, (∀ t < k, δ t = δ' t) → (∀ t < k, g t = g' t) →
    steps a δ g h k = steps a δ' g' h k
  | 0, _, _ => rfl
  | k + 1, h1, h2 => by
    show step a (δ k) (g k) (steps a δ g h k) = step a (δ' k) (g' k) (steps a δ' g' h k)
    rw [h1 k (Nat.lt_succ_self k), h2 k (Nat.lt_succ_self k),
      steps_congr h k (fun t ht => h1 t (Nat.lt_succ_of_lt ht)) (fun t ht => h2 t (Nat.lt_succ_of_lt ht))]

/-- A block of steps at once: the state decays by the block's total size, and each input by the sizes after it. -/
theorem steps_block {a : EReal} (ha : a ≤ 0) {δ : ℕ → EReal} (hδ : ∀ t, 0 ≤ δ t) (g : ℕ → EReal) (h : EReal) : ∀ k,
    steps a δ g h k = Ideal.exp ((∑ t ∈ Finset.range k, δ t) * a) * h
      + ∑ t ∈ Finset.range k, Ideal.exp ((∑ s ∈ Finset.Ico (t + 1) k, δ s) * a) * g t
  | 0 => by
    show h = _
    rw [Finset.sum_range_zero, Finset.sum_range_zero, zero_mul, exp_zero, one_mul, add_zero]
  | k + 1 => by
    have hk : δ k * a ≤ 0 := EReal.mul_nonpos_iff.mpr (Or.inl ⟨hδ k, ha⟩)
    have hs : ∀ s : Finset ℕ, (∑ t ∈ s, δ t) * a ≤ 0 := fun s =>
      EReal.mul_nonpos_iff.mpr (Or.inl ⟨Finset.sum_nonneg fun t _ => hδ t, ha⟩)
    have hsum : ∀ s : Finset ℕ, Ideal.exp (δ k * a) * Ideal.exp ((∑ t ∈ s, δ t) * a) = Ideal.exp ((∑ t ∈ s, δ t + δ k) * a) := by
      intro s
      rw [EReal.right_distrib_of_nonneg (Finset.sum_nonneg fun t _ => hδ t) (hδ k), exp_add (hs s) hk, mul_comm]
    show Ideal.exp (δ k * a) * steps a δ g h k + g k = _
    rw [steps_block ha hδ g h k, EReal.left_distrib_of_nonneg_of_ne_top (exp_nonneg _) (exp_ne_top hk),
      mul_sum_of _ _ (exp_nonneg _) (exp_ne_top hk), ← mul_assoc, hsum, Finset.sum_range_succ (fun t => δ t),
      Finset.sum_range_succ (fun t => Ideal.exp ((∑ s ∈ Finset.Ico (t + 1) (k + 1), δ s) * a) * g t),
      Finset.Ico_self, Finset.sum_empty, zero_mul, exp_zero, one_mul, add_assoc]
    congr 2
    refine Finset.sum_congr rfl fun t ht => ?_
    rw [← mul_assoc, hsum, Finset.sum_Ico_succ_top (Nat.succ_le_of_lt (Finset.mem_range.mp ht))]

/-- The sum of what lies after `t` in a block of `n`, as the sum of all masked. -/
theorem sum_after {n : ℕ} (f : ℕ → EReal) (t : ℕ) :
    (∑ s : Fin n, (if t < s.val then (1 : EReal) else 0) * f s.val) = ∑ s ∈ Finset.Ico (t + 1) n, f s := by
  rw [Fin.sum_univ_eq_sum_range (fun s => (if t < s then (1 : EReal) else 0) * f s) n]
  have : ∀ s, (if t < s then (1 : EReal) else 0) * f s = if t < s then f s else 0 := by
    intro s
    split_ifs
    · exact one_mul _
    · exact zero_mul _
  simp only [this]
  rw [← Finset.sum_filter]
  refine Finset.sum_congr (Finset.ext fun s => ?_) fun _ _ => rfl
  simp only [Finset.mem_filter, Finset.mem_range, Finset.mem_Ico]
  omega

/-- What lies after the first of a block, with the first, is the block's total. -/
theorem sum_first {n : ℕ} (f : ℕ → EReal) : (∑ s ∈ Finset.Ico 1 (n + 1), f s) + f 0 = ∑ s ∈ Finset.range (n + 1), f s := by
  rw [Finset.range_eq_Ico, ← Finset.sum_Ico_consecutive f (Nat.zero_le 1) (Nat.le_add_left 1 n), add_comm]
  congr 1
  simp

end Cert.Scan
-- ==== Proof.Model.lean ====
/-
  The block's mathematics: embedding, input projection, causal convolution, selective scan, gate, output projection and
  logits, over the extended reals, one element at a time.
-/
module

public import proofs.«01_k».proof.Proof.Scan

@[expose] public section

noncomputable section

namespace Cert.Model

open Idealize.ShloMosaic

/-- `log (1 + e ^ x)`, written so that large `x` does not overflow. -/
def softplus (x : EReal) : EReal := max x 0 + Ideal.log1p (Ideal.exp (-(max x (-x))))

/-- `x / (1 + e ^ (-x))`. -/
def silu (x : EReal) : EReal := x * Ideal.logistic x

/-- A softplus is not negative. -/
theorem softplus_nonneg (x : EReal) : 0 ≤ softplus x :=
  add_nonneg (le_max_right _ _) (Scan.log1p_nonneg (Scan.exp_nonneg _))

/-- The thirteen arguments. -/
structure Args where
  tok : (⟨2, ![4, 2048]⟩ : Shape).Idx → BitVec 32
  emb : (⟨2, ![1024, 1024]⟩ : Shape).Idx → EReal
  win : (⟨2, ![1024, 4096]⟩ : Shape).Idx → EReal
  cw : (⟨2, ![2048, 4]⟩ : Shape).Idx → EReal
  cb : (⟨1, ![2048]⟩ : Shape).Idx → EReal
  xp : (⟨2, ![2048, 96]⟩ : Shape).Idx → EReal
  dw : (⟨2, ![64, 2048]⟩ : Shape).Idx → EReal
  db : (⟨1, ![2048]⟩ : Shape).Idx → EReal
  alog : (⟨2, ![2048, 16]⟩ : Shape).Idx → EReal
  dskip : (⟨1, ![2048]⟩ : Shape).Idx → EReal
  ow : (⟨2, ![2048, 1024]⟩ : Shape).Idx → EReal
  fw : (⟨2, ![1024, 1024]⟩ : Shape).Idx → EReal
  fb : (⟨1, ![1024]⟩ : Shape).Idx → EReal

variable (a : Args)

/-- The token of batch `b` at time `t`. -/
def tokAt (b : Fin 4) (t : ℕ) : Fin 1024 := ⟨(a.tok (ix2 b ⟨t % 2048, Nat.mod_lt _ (by decide)⟩)).toNat % 1024, Nat.mod_lt _ (by decide)⟩

/-- The input projection of token `v`'s embedding, at output feature `e`. -/
def lin (v : Fin 1024) (e : Fin 4096) : EReal := ∑ k : Fin 1024, a.emb (ix2 v k) * a.win (ix2 k e)

/-- The scan branch's features, three zero rows before the first. -/
def padded (b : Fin 4) (s : ℕ) (d : Fin 2048) : EReal :=
  if s < 3 then 0 else lin a (tokAt a b (s - 3)) ⟨d.val, by omega⟩

/-- The four taps' sum at time `t`. -/
def conv (b : Fin 4) (t : ℕ) (d : Fin 2048) : EReal :=
  padded a b t d * a.cw (ix2 d 0) + padded a b (t + 1) d * a.cw (ix2 d 1) + padded a b (t + 2) d * a.cw (ix2 d 2)
    + padded a b (t + 3) d * a.cw (ix2 d 3)

/-- The convolved, activated features. -/
def xc (b : Fin 4) (t : ℕ) (d : Fin 2048) : EReal := silu (a.cb (ix1 d) + conv a b t d)

/-- The projection of a feature row to step size, input and output coefficients. -/
def proj (x : Fin 2048 → EReal) (e : Fin 96) : EReal := ∑ d : Fin 2048, x d * a.xp (ix2 d e)

/-- The step sizes of a feature row. -/
def delta (x : Fin 2048 → EReal) (d : Fin 2048) : EReal :=
  softplus ((∑ r : Fin 64, proj a x ⟨r.val, by omega⟩ * a.dw (ix2 r d)) + a.db (ix1 d))

/-- The input coefficients of a feature row. -/
def bcoef (x : Fin 2048 → EReal) (n : Fin 16) : EReal := proj a x ⟨64 + n.val, by omega⟩

/-- The output coefficients of a feature row. -/
def ccoef (x : Fin 2048 → EReal) (n : Fin 16) : EReal := proj a x ⟨80 + n.val, by omega⟩

/-- The decay rates. -/
def rate (d : Fin 2048) (n : Fin 16) : EReal := -Ideal.exp (a.alog (ix2 d n))

/-- What a feature row brings into the state. -/
def input (x : Fin 2048 → EReal) (d : Fin 2048) (n : Fin 16) : EReal := delta a x d * x d * bcoef a x n

/-- The state of batch `b` after `t` steps. -/
def state (b : Fin 4) (t : ℕ) (d : Fin 2048) (n : Fin 16) : EReal :=
  Scan.steps (rate a d n) (fun s => delta a (xc a b s) d) (fun s => input a (xc a b s) d n) 0 t

/-- The scan's output at the last time, with the skip connection. -/
def scanned (b : Fin 4) (d : Fin 2048) : EReal :=
  (∑ n : Fin 16, state a b 2048 d n * ccoef a (xc a b 2047) n) + a.dskip (ix1 d) * xc a b 2047 d

/-- The gated output at the last time. -/
def gated (b : Fin 4) (d : Fin 2048) : EReal := scanned a b d * silu (lin a (tokAt a b 2047) ⟨2048 + d.val, by omega⟩)

/-- The logits of the last time. -/
def logits (b : Fin 4) (j : Fin 1024) : EReal :=
  (∑ k : Fin 1024, (∑ d : Fin 2048, gated a b d * a.ow (ix2 d k)) * a.fw (ix2 k j)) + a.fb (ix1 j)

/-- A decay rate is not positive. -/
theorem rate_nonpos (d : Fin 2048) (n : Fin 16) : rate a d n ≤ 0 := by
  unfold rate
  rw [EReal.neg_le, neg_zero]
  exact Scan.exp_nonneg _

/-- A step size is not negative. -/
theorem delta_nonneg (x : Fin 2048 → EReal) (d : Fin 2048) : 0 ≤ delta a x d := softplus_nonneg _

end Cert.Model
-- ==== Proof.KernelIdeal.Block.lean ====
/-
  The scan kernel's block computations, one element at a time.
-/
module

public import proofs.«01_k».proof.Proof.KernelIdeal.Carry
public import proofs.«01_k».proof.Proof.Model
public import Idealize.ShloMosaic.Lib.Pointwise

@[expose] public section

set_option maxRecDepth 16384

noncomputable section

namespace Cert.KernelIdeal.Proof

open Cert.KernelIdeal Cert.KernelIdeal.Gen
open Idealize.ShloMosaic

/-! ## Windows -/

/-- The first row of a chunk's array is its row 0. -/
theorem firstRow_apply (x : FVec Ideal S256x2048 .f32) (d : Fin 2048) : firstRow x (ix2 0 d) = x (ix2 0 d) := by
  refine congrArg x (funext fun a => Fin.ext ?_)
  fin_cases a
  · rfl
  · show 0 + 1 * d.val = d.val
    omega

/-- The last row of a chunk's array is its row 255. -/
theorem lastRow_apply (x : FVec Ideal S256x2048 .f32) (d : Fin 2048) : lastRow x (ix2 0 d) = x (ix2 255 d) := by
  refine congrArg x (funext fun a => Fin.ext ?_)
  fin_cases a
  · rfl
  · show 0 + 1 * d.val = d.val
    omega

/-- The 256 rows from `o` on: row `r` is row `r + o`. -/
theorem rowsAt_apply (o : ℕ) (ho : o + 256 ≤ 264) (G : FVec Ideal S264x1x2048 .f32) (r : Fin 256) (d : Fin 2048) :
    rowsAt o ho G (ix3 r 0 d) = G (ix3 ⟨r.val + o, by omega⟩ 0 d) := by
  refine congrArg G (funext fun a => Fin.ext ?_)
  fin_cases a
  · show o + 1 * r.val = r.val + o
    omega
  · rfl
  · show 0 + 1 * d.val = d.val
    omega

/-- Row `j` of the convolution's weights. -/
theorem tap_apply (j : ℕ) (hj : j + 1 ≤ 4) (cw : FVec Ideal S4x1x2048 .f32) (d : Fin 2048) :
    tap j hj cw (ix3 0 0 d) = cw (ix3 ⟨j, by omega⟩ 0 d) := by
  refine congrArg cw (funext fun a => Fin.ext ?_)
  fin_cases a
  · show j + 1 * 0 = j
    omega
  · rfl
  · show 0 + 1 * d.val = d.val
    omega

/-! ## The chunk's arrays -/

/-- The convolved inputs: bias, four taps, silu. -/
theorem xcOf_apply (cw : FVec Ideal S4x1x2048 .f32) (cb : FVec Ideal S1x1x2048 .f32) (G : FVec Ideal S264x1x2048 .f32) (r : Fin 256)
    (d : Fin 2048) : xcOf cw cb G (ix2 r d)
      = Model.silu (cb (ix3 0 0 d) + (G (ix3 ⟨r.val + 5, by omega⟩ 0 d) * cw (ix3 0 0 d) + G (ix3 ⟨r.val + 6, by omega⟩ 0 d) * cw (ix3 1 0 d)
        + G (ix3 ⟨r.val + 7, by omega⟩ 0 d) * cw (ix3 2 0 d) + G (ix3 ⟨r.val + 8, by omega⟩ 0 d) * cw (ix3 3 0 d))) := by
  pointwise [xcOf, k1_pay15, k1_pay16]
  rw [rowsAt_apply, rowsAt_apply, rowsAt_apply, rowsAt_apply, tap_apply, tap_apply, tap_apply, tap_apply]
  unfold Model.silu
  simp only [add_assoc]
  rfl

/-- The projections of the chunk's rows. -/
theorem proj_apply (x : FVec Ideal S256x2048 .f32) (xp : FVec Ideal S2048x96 .f32) (r : Fin 256) (e : Fin 96) :
    k1_pay18 x xp (ix2 r e) = ∑ k : Fin 2048, x (ix2 r k) * xp (ix2 k e) := by
  pointwise [k1_pay18]

/-- The step sizes before their activation. -/
theorem pre_apply (x : FVec Ideal S256x2048 .f32) (xp : FVec Ideal S2048x96 .f32) (dw : FVec Ideal S64x2048 .f32)
    (db : FVec Ideal S1x2048 .f32) (r : Fin 256) (d : Fin 2048) :
    k1_pay19 x xp dw db (ix2 r d) = (∑ k : Fin 64, k1_pay18 x xp (ix2 r ⟨k.val, by omega⟩) * dw (ix2 k d)) + db (ix2 0 d) := by
  pointwise [k1_pay19]

/-- The step sizes. -/
theorem deltaOf_apply (x : FVec Ideal S256x2048 .f32) (xp : FVec Ideal S2048x96 .f32) (dw : FVec Ideal S64x2048 .f32)
    (db : FVec Ideal S1x2048 .f32) (r : Fin 256) (d : Fin 2048) :
    deltaOf xp dw db x (ix2 r d) = Model.softplus (k1_pay19 (F := Ideal) x xp dw db (ix2 r d)) := by
  pointwise [deltaOf, k1_pay26, k1_pay25, k1_pay20, k1_pay21, k1_pay22, k1_pay23, k1_pay24]
  rw [if_neg (fun h => h rfl), zero_sub]
  rfl

/-- The step sizes times the inputs. -/
theorem inpOf_apply (x : FVec Ideal S256x2048 .f32) (xp : FVec Ideal S2048x96 .f32) (dw : FVec Ideal S64x2048 .f32)
    (db : FVec Ideal S1x2048 .f32) (r : Fin 256) (d : Fin 2048) :
    inpOf xp dw db x (ix2 r d) = deltaOf (F := Ideal) xp dw db x (ix2 r d) * x (ix2 r d) := by
  pointwise [inpOf, deltaOf, k1_pay27, k1_pay26]

/-- The mask of the later rows, as a number. -/
theorem mask_apply (r k : Fin 256) :
    FloatOps.sitofp (F := Ideal) .f32 (BitVec.setWidth 32 (IntOp.cmpi .sgt (BitVec.ofNat 32 k.val) (BitVec.ofNat 32 r.val)))
      = if r.val < k.val then (1 : EReal) else 0 := by
  have h : (IntOp.cmpi .sgt (BitVec.ofNat 32 k.val) (BitVec.ofNat 32 r.val)) = BitVec.ofBool (decide (r.val < k.val)) := by
    have hr : (BitVec.ofNat 32 r.val).toInt = r.val := by
      rw [BitVec.toInt_eq_toNat_of_lt (by rw [BitVec.toNat_ofNat]; omega), BitVec.toNat_ofNat, Nat.mod_eq_of_lt (by omega)]
    have hk : (BitVec.ofNat 32 k.val).toInt = k.val := by
      rw [BitVec.toInt_eq_toNat_of_lt (by rw [BitVec.toNat_ofNat]; omega), BitVec.toNat_ofNat, Nat.mod_eq_of_lt (by omega)]
    show BitVec.ofBool (BitVec.slt _ _) = _
    rw [BitVec.slt_eq_decide, hr, hk]
    congr 1
    simp
  rw [h]
  by_cases hrk : r.val < k.val
  · rw [if_pos hrk, decide_eq_true hrk]
    show (((1 : ℤ) : ℝ) : EReal) = 1
    simp
  · rw [if_neg hrk, decide_eq_false hrk]
    show (((0 : ℤ) : ℝ) : EReal) = 0
    simp

/-- The step sizes that follow, summed. -/
theorem restOf_apply (x : FVec Ideal S256x2048 .f32) (xp : FVec Ideal S2048x96 .f32) (dw : FVec Ideal S64x2048 .f32)
    (db : FVec Ideal S1x2048 .f32) (r : Fin 256) (d : Fin 2048) :
    restOf xp dw db x (ix2 r d)
      = ∑ k : Fin 256, (if r.val < k.val then (1 : EReal) else 0) * deltaOf (F := Ideal) xp dw db x (ix2 k d) := by
  pointwise [restOf, deltaOf, k1_pay28, k1_pay26]
  exact Finset.sum_congr rfl fun k _ => by rw [mask_apply]

set_option maxHeartbeats 1000000 in
/-- The state after the chunk. -/
theorem advance_apply (al : FVec Ideal S16x2048 .f32) (p : FVec Ideal S256x96 .f32) (r dl u : FVec Ideal S256x2048 .f32)
    (h : FVec Ideal S16x2048 .f32) (n : Fin 16) (d : Fin 2048) :
    advance al p r dl u h (ix2 n d)
      = Ideal.exp ((0 - Ideal.exp (al (ix2 n d))) * (r (ix2 0 d) + dl (ix2 0 d))) * h (ix2 n d)
        + ∑ x : Fin 256, Ideal.exp (r (ix2 x d) * (0 - Ideal.exp (al (ix2 n d)))) * u (ix2 x d) * p (ix2 x ⟨64 + n.val, by omega⟩) := by
  pointwise [advance, k1_pay1, k1_pay45, k1_pay30, k1_pay31, k1_pay32, k1_pay33, k1_pay34, k1_pay35, k1_pay36, k1_pay37, k1_pay38, k1_pay39, k1_pay40, k1_pay41, k1_pay42, k1_pay43, k1_pay44, k1_pay29]
  rw [firstRow_apply, firstRow_apply]
  fin_vals n with hn
  all_goals
    simp only [hn, Nat.reduceSub, Nat.reduceLT, ↓reduceDIte, ↓reduceIte]
    obtain ⟨v, hv⟩ := n
    obtain rfl : v = _ := hn
    rfl

/-! ## The epilogue -/

/-- A table row at its element. -/
theorem embRow_apply (e3 : FVec Ideal S1024x1x1024 .f32) (v : BitVec 32) (k : Fin 1024) :
    embRow e3 v (ix3 0 0 k) = e3 (ix3 ⟨v.toNat % 1024, Nat.mod_lt _ (by decide)⟩ 0 k) := by
  unfold embRow
  rw [ix3_eq_valueIdx ⟨v.toNat % 1024, Nat.mod_lt _ (by decide)⟩]
  rfl

/-- What the epilogue stores: the states against the last row's output coefficients, the skip, the gate, the output
projection and the logits. -/
theorem epi_apply (tok : IVec S1x4 32) (e3 : FVec Ideal S1024x1x1024 .f32) (wz : FVec Ideal S1024x2048 .f32)
    (hs : FVec Ideal S4x16x2048 .f32) (xl : FVec Ideal S4x2048 .f32) (wc : FVec Ideal S2048x16 .f32) (dd : FVec Ideal S1x2048 .f32)
    (ow : FVec Ideal S2048x1024 .f32) (fw : FVec Ideal S1024x1024 .f32) (fb : FVec Ideal S1x1024 .f32) (b : Fin 4) (j : Fin 1024) :
    epi tok e3 wz hs xl wc dd ow fw fb (ix2 b j)
      = (∑ k : Fin 1024, (∑ d : Fin 2048, ((∑ n : Fin 16, hs (ix3 b n d) * ∑ e : Fin 2048, xl (ix2 b e) * wc (ix2 e n))
            + dd (ix2 0 d) * xl (ix2 b d))
          * Model.silu (∑ e : Fin 1024, e3 (ix3 ⟨(tok (ix2 0 b)).toNat % 1024, Nat.mod_lt _ (by decide)⟩ 0 e) * wz (ix2 e d))
          * ow (ix2 d k)) * fw (ix2 k j)) + fb (ix2 0 j) := by
  pointwise [epi, k2_pay1, k2_pay2, k2_pay3, k2_pay4, k2_pay5]
  simp only [embRow_apply, ← ix2_eq_valueIdx]
  fin_vals b with hb
  all_goals
    simp only [hb, Nat.reduceSub, Nat.reduceLT, ↓reduceDIte, ↓reduceIte]
    obtain ⟨v, hv⟩ := b
    obtain rfl : v = _ := hb
    rfl

/-! ## The other payloads -/

/-- A block of the projected table. -/
theorem table_apply (x : FVec Ideal S512x1024 .f32) (w : FVec Ideal S1024x2048 .f32) (r : Fin 512) (d : Fin 2048) :
    k0_pay1 x w (ix2 r d) = ∑ k : Fin 1024, x (ix2 r k) * w (ix2 k d) := by
  pointwise [k0_pay1]

/-- The state as stored. -/
theorem stateOut_apply (x : FVec Ideal S16x2048 .f32) (n : Fin 16) (d : Fin 2048) : k1_pay2 x (ix3 0 n d) = x (ix2 n d) := by
  pointwise [k1_pay2]

/-- The last row as stored. -/
theorem rowOut_apply (x : FVec Ideal S1x2048 .f32) (d : Fin 2048) : k1_pay3 x (ix3 0 0 d) = x (ix2 0 d) := by
  pointwise [k1_pay3]

/-- The state that a batch begins with. -/
theorem stateZero_apply (n : Fin 16) (d : Fin 2048) : k1_pay13 (F := Ideal) (ix2 n d) = 0 := by
  pointwise [k1_pay13]

/-- The rows that a batch begins with. -/
theorem tailZero_apply (n : Fin 3) (d : Fin 2048) : k1_pay12 (F := Ideal) (ix3 n 0 d) = 0 := by
  pointwise [k1_pay12]

end Cert.KernelIdeal.Proof
-- ==== Proof.KernelIdeal.Chunk.lean ====
/-
  The scan kernel's chunks against the block's mathematics: the gathered rows, the convolved inputs, the state.
-/
module

public import proofs.«01_k».proof.Proof.KernelIdeal.Block

@[expose] public section

set_option maxRecDepth 16384

noncomputable section

namespace Cert.KernelIdeal.Proof

open Cert.KernelIdeal Cert.KernelIdeal.Gen
open Idealize.ShloMosaic
open Cert (Model.Args)

/-- The scan call's arrays hold the arguments, in the layouts that the host gives them. -/
structure Holds (a : Model.Args) (tok : IVec S4x2048 32) (eg : FVec Ideal S1024x1x2048 .f32) (cw : FVec Ideal S4x1x2048 .f32)
    (cb : FVec Ideal S1x1x2048 .f32) (xp : FVec Ideal S2048x96 .f32) (dw : FVec Ideal S64x2048 .f32) (db : FVec Ideal S1x2048 .f32)
    (al : FVec Ideal S16x2048 .f32) : Prop where
  tok : tok = a.tok
  eg : ∀ v d, eg (ix3 v 0 d) = Model.lin a v ⟨d.val, by omega⟩
  cw : ∀ j d, cw (ix3 j 0 d) = a.cw (ix2 d j)
  cb : ∀ d, cb (ix3 0 0 d) = a.cb (ix1 d)
  xp : xp = a.xp
  dw : dw = a.dw
  db : ∀ d, db (ix2 0 d) = a.db (ix1 d)
  al : ∀ n d, al (ix2 n d) = a.alog (ix2 d n)

/-- Grid point `n` is chunk `n % 8` of batch `n / 8`. -/
theorem pt_coords : ∀ n : Fin 32, ((pt n.val) 0).val = n.val / 8 ∧ ((pt n.val) 1).val = n.val % 8 := by
  decide +kernel

section
variable {a : Model.Args} {tok : IVec S4x2048 32} {eg : FVec Ideal S1024x1x2048 .f32} {cw : FVec Ideal S4x1x2048 .f32}
  {cb : FVec Ideal S1x1x2048 .f32} {xp : FVec Ideal S2048x96 .f32} {dw : FVec Ideal S64x2048 .f32} {db : FVec Ideal S1x2048 .f32}
  {al : FVec Ideal S16x2048 .f32} (H : Holds a tok eg cw cb xp dw db al) (b : Fin 4) (q : ℕ) (hq : q < 8)
include H hq

/-- A gathered row is the table's row of the chunk's token. -/
theorem gath_row (g : FVec Ideal S264x1x2048 .f32) (r : ℕ) (h8 : 8 ≤ r) (hr : r < 264) (d : Fin 2048) :
    gath tok eg (pt (8 * b.val + q)) g 256 (ix3 ⟨r, hr⟩ 0 d) = Model.padded a b (256 * q + (r - 5)) d := by
  have hc := pt_coords ⟨8 * b.val + q, by omega⟩
  have hb : (8 * b.val + q) / 8 = b.val := by omega
  have hm : (8 * b.val + q) % 8 = q := by omega
  have e0 : (pt (8 * b.val + q)) 0 = b := Fin.ext (hc.1.trans hb)
  have e1 : ((pt (8 * b.val + q)) 1).val = q := hc.2.trans hm
  unfold gath
  rw [if_pos ⟨h8, hr⟩]
  unfold Model.padded
  rw [if_neg (by omega), ← H.eg]
  show eg (ValueIdx.ix3 _ 0 d) = _
  rw [← ix3_eq_valueIdx]
  refine congrArg (fun v => eg (ix3 v 0 d)) (Fin.ext ?_)
  show (word tok (pt (8 * b.val + q)) (r - 8)).toNat % 1024 = (a.tok (ix2 b ⟨(256 * q + (r - 5) - 3) % 2048, _⟩)).toNat % 1024
  unfold word
  rw [← H.tok]
  refine congrArg (fun v => (tok v).toNat % 1024) ((congrArg₂ ValueIdx.ix2 e0 (Fin.ext ?_)).trans (ix2_eq_valueIdx _ _).symm)
  show (256 * ((pt (8 * b.val + q)) 1).val + (r - 8)) % 2048 = (256 * q + (r - 5) - 3) % 2048
  rw [e1]
  congr 1
  omega

/-- The scratch from its row 5 on is the padded features of the chunk and of the three positions before it. -/
theorem scr_row (r : ℕ) (h5 : 5 ≤ r) (hr : r < 264) (d : Fin 2048) :
    scr tok eg (8 * b.val + q) (ix3 ⟨r, hr⟩ 0 d) = Model.padded a b (256 * q + (r - 5)) d := by
  by_cases hq0 : q = 0
  · subst hq0
    rw [scr_zero (by omega)]
    by_cases h8 : 8 ≤ r
    · exact gath_row H b 0 hq _ r h8 hr d
    · unfold gath
      rw [if_neg (fun h => h8 h.1)]
      unfold clearOf VecWindow.put
      rw [dif_pos (by
        intro i
        fin_cases i
        · exact ⟨h5, show r < 5 + 3 by omega⟩
        · exact ⟨Nat.zero_le _, show 0 < 0 + 1 by omega⟩
        · exact ⟨Nat.zero_le _, show d.val < 0 + 2048 by omega⟩)]
      unfold Model.padded
      rw [if_pos (by omega)]
      exact tailZero_apply ⟨r - 5, by omega⟩ d
  · rw [scr_pos (by omega)]
    by_cases h8 : 8 ≤ r
    · exact gath_row H b q hq _ r h8 hr d
    · have e : scr tok eg (8 * b.val + q - 1) (ix3 ⟨r + 256, by omega⟩ 0 d) = Model.padded a b (256 * q + (r - 5)) d := by
        have e1 : 8 * b.val + q - 1 = 8 * b.val + (q - 1) := by omega
        have e2 : 256 * q + (r - 5) = 256 * (q - 1) + (r + 256 - 5) := by omega
        rw [e1, e2]
        by_cases hq1 : q - 1 = 0
        · rw [scr_zero (by omega)]
          exact gath_row H b (q - 1) (by omega) _ (r + 256) (by omega) (by omega) d
        · rw [scr_pos (by omega)]
          exact gath_row H b (q - 1) (by omega) _ (r + 256) (by omega) (by omega) d
      rw [← e]
      unfold gath
      rw [if_neg (fun h => h8 h.1), tailOf_apply _ _ h5 (show r < 8 by omega)]
      exact congrArg (scr tok eg (8 * b.val + q - 1)) (ix3_eq_valueIdx _ _ _).symm

/-- The chunk's convolved inputs. -/
theorem xcAt_apply (r : Fin 256) (d : Fin 2048) :
    xcAt tok eg cw cb (8 * b.val + q) (ix2 r d) = Model.xc a b (256 * q + r.val) d := by
  unfold xcAt
  rw [xcOf_apply, scr_row H b q hq _ (by omega), scr_row H b q hq _ (by omega), scr_row H b q hq _ (by omega),
    scr_row H b q hq _ (by omega), H.cb, H.cw, H.cw, H.cw, H.cw]
  unfold Model.xc Model.conv
  rw [show r.val + 5 - 5 = r.val by omega, show r.val + 6 - 5 = r.val + 1 by omega, show r.val + 7 - 5 = r.val + 2 by omega,
    show r.val + 8 - 5 = r.val + 3 by omega]
  rfl

end

section
variable {a : Model.Args} {tok : IVec S4x2048 32} {eg : FVec Ideal S1024x1x2048 .f32} {cw : FVec Ideal S4x1x2048 .f32}
  {cb : FVec Ideal S1x1x2048 .f32} {xp : FVec Ideal S2048x96 .f32} {dw : FVec Ideal S64x2048 .f32} {db : FVec Ideal S1x2048 .f32}
  {al : FVec Ideal S16x2048 .f32} (H : Holds a tok eg cw cb xp dw db al) (X : ℕ → Fin 2048 → EReal) (x : FVec Ideal S256x2048 .f32)
  (hx : ∀ r d, x (ix2 r d) = X r.val d)
include H hx

/-- The projections of a chunk whose rows are `X`. -/
theorem proj_model (r : Fin 256) (e : Fin 96) : (k1_pay18 (F := Ideal) x xp (ix2 r e) : EReal) = Model.proj a (X r.val) e := by
  rw [proj_apply]
  simp only [hx, H.xp]
  rfl

/-- Its step sizes. -/
theorem delta_model (r : Fin 256) (d : Fin 2048) : deltaOf xp dw db x (ix2 r d) = Model.delta a (X r.val) d := by
  rw [deltaOf_apply, pre_apply, H.db]
  simp only [proj_model H X x hx, H.dw]
  rfl

/-- Its step sizes times its inputs. -/
theorem inp_model (r : Fin 256) (d : Fin 2048) : inpOf xp dw db x (ix2 r d) = Model.delta a (X r.val) d * X r.val d := by
  rw [inpOf_apply, delta_model H X x hx, hx]

/-- Its step sizes summed after each row. -/
theorem rest_model (r : Fin 256) (d : Fin 2048) :
    restOf xp dw db x (ix2 r d) = ∑ s ∈ Finset.Ico (r.val + 1) 256, Model.delta a (X s) d := by
  rw [restOf_apply]
  simp only [delta_model H X x hx]
  exact Scan.sum_after (n := 256) (fun s => Model.delta a (X s) d) r.val

/-- The state after the chunk is the state before it after 256 steps. -/
theorem stateOf_model (h : FVec Ideal S16x2048 .f32) (n : Fin 16) (d : Fin 2048) :
    stateOf xp dw db al x h (ix2 n d)
      = Scan.steps (Model.rate a d n) (fun s => Model.delta a (X s) d) (fun s => Model.input a (X s) d n) (h (ix2 n d)) 256 := by
  unfold stateOf
  rw [advance_apply, Scan.steps_block (Model.rate_nonpos a d n) (fun s => Model.delta_nonneg a (X s) d)]
  simp only [rest_model H X x hx, delta_model H X x hx, inp_model H X x hx, proj_model H X x hx, H.al, zero_sub]
  congr 1
  · rw [mul_comm (-Ideal.exp _)]
    congr 3
    exact Scan.sum_first (n := 255) fun s => Model.delta a (X s) d
  · rw [← Fin.sum_univ_eq_sum_range (fun t => Ideal.exp ((∑ s ∈ Finset.Ico (t + 1) 256, Model.delta a (X s) d) * Model.rate a d n)
      * Model.input a (X t) d n) 256]
    exact Finset.sum_congr rfl fun t _ => mul_assoc _ _ _
end

section
variable {a : Model.Args} {tok : IVec S4x2048 32} {eg : FVec Ideal S1024x1x2048 .f32} {cw : FVec Ideal S4x1x2048 .f32}
  {cb : FVec Ideal S1x1x2048 .f32} {xp : FVec Ideal S2048x96 .f32} {dw : FVec Ideal S64x2048 .f32} {db : FVec Ideal S1x2048 .f32}
  {al : FVec Ideal S16x2048 .f32} (H : Holds a tok eg cw cb xp dw db al) (b : Fin 4)
include H

/-- The state after a batch's chunk `q`. -/
theorem hAt_model (n : Fin 16) (d : Fin 2048) : ∀ q, q < 8 →
    hAt tok eg cw cb xp dw db al (8 * b.val + q) (ix2 n d) = Model.state a b (256 * (q + 1)) d n
  | 0, hq => by
    rw [hAt_zero (by omega), stateOf_model H (fun t => Model.xc a b (256 * 0 + t)) _ (xcAt_apply H b 0 hq), stateZero_apply]
    exact Scan.steps_congr 0 256 (fun t _ => by rw [Nat.mul_zero, Nat.zero_add]) (fun t _ => by rw [Nat.mul_zero, Nat.zero_add])
  | q + 1, hq => by
    rw [hAt_pos (by omega), stateOf_model H (fun t => Model.xc a b (256 * (q + 1) + t)) _ (xcAt_apply H b (q + 1) hq),
      show 8 * b.val + (q + 1) - 1 = 8 * b.val + q by omega, hAt_model n d q (by omega),
      show 256 * (q + 1 + 1) = 256 * (q + 1) + 256 by omega]
    exact (Scan.steps_add (Model.rate a d n) (fun s => Model.delta a (Model.xc a b s) d)
      (fun s => Model.input a (Model.xc a b s) d n) 0 (256 * (q + 1)) 256).symm
end

end Cert.KernelIdeal.Proof
-- ==== Proof.KernelIdeal.Arrays.lean ====
/-
  What the three calls leave in the arrays they write, over the extended reals.
-/
module

public import proofs.«01_k».proof.Proof.KernelIdeal.Launch
public import proofs.«01_k».proof.Proof.KernelIdeal.Chunk

@[expose] public section

set_option maxRecDepth 16384

noncomputable section

namespace Cert.KernelIdeal.Proof

open Cert.KernelIdeal
open Cert.KernelIdeal.Gen hiding V0 V1 V2 V3 V4 V5 V6 segs adm
open Idealize.ShloMosaic Idealize.ShloMosaic.TcCoe Idealize.ShloMosaic.Tactic
open Idealize.ShloMosaic.Pipeline (Dat Cfg Window)

variable (V : (c : Dev nD) → (b : Ref sig .tc) → Buf (Elt Ideal) ((c : Thread nD τ).loc b))

/-- The embedding table times a weight. -/
def tableOf (e : FVec Ideal S1024x1024 .f32) (w : FVec Ideal S1024x2048 .f32) : FVec Ideal S1024x2048 .f32 :=
  fun i => ∑ k : Fin 1024, e (ix2 (i 0) k) * w (ix2 k (i 1))

/-- Call 0 reads the block of the embedding table that its point names. -/
theorem e0_0 : ∀ t : Fin cfg0.N, win0_0.index t = ![(grid0.coords t 0).val, 0] := (by decide +kernel : ∀ t : Fin grid0.N, _)
/-- Call 0 reads the weight whole at every point. -/
theorem e0_1 : ∀ t : Fin cfg0.N, win0_1.index t = ![0, 0] := (by decide +kernel : ∀ t : Fin grid0.N, _)
/-- Call 0 writes the block of the projected table that its point names. -/
theorem e0_2 : ∀ t : Fin cfg0.N, win0_2.index t = ![(grid0.coords t 0).val, 0] := (by decide +kernel : ∀ t : Fin grid0.N, _)

/-- The first call leaves the projected table. -/
theorem arr0 (c : Dev nD) : (dat0 V c).arrAt 2 cfg0.N = tableOf (V c main_arg1) (V c main_v0) := by
  refine (dat0 V c).arrAt_eq_of_covers 2 _ (by decide +kernel) fun t hf y => ?_
  blk_simp
  rw [after0_2]
  refine (congrArg (k0_pay1 _ _) (eq_ix2 y)).trans ((table_apply _ _ (y 0) (y 1)).trans ?_)
  unfold tableOf
  refine Finset.sum_congr rfl fun k _ => congrArg₂ (· * ·) ?_ ?_
  · unfold iblk0
    blk_ext [e0_0, e0_2]
  · unfold iblk0
    blk_ext [e0_1, e0_2]

/-- Point `t` of call 1 holds the state block of batch `t / 8`. -/
theorem e1_8 : ∀ t : Fin cfg1.N, win1_8.index t = ![t.val / 8, 0, 0] := (by decide +kernel : ∀ t : Fin grid1.N, _)
/-- Point `t` of call 1 holds the last-row block of batch `t / 8`. -/
theorem e1_9 : ∀ t : Fin cfg1.N, win1_9.index t = ![t.val / 8, 0, 0] := (by decide +kernel : ∀ t : Fin grid1.N, _)
/-- A state is written back only after a batch's last chunk. -/
theorem f1_8 : ∀ t : Fin cfg1.N, (cfg1.win 8).flush t = true → t.val % 8 = 7 := by decide +kernel
/-- A last row is written back only after a batch's last chunk. -/
theorem f1_9 : ∀ t : Fin cfg1.N, (cfg1.win 9).flush t = true → t.val % 8 = 7 := by decide +kernel

/-- A stored state, at any index of its block. -/
theorem stateOut_at (x : FVec Ideal S16x2048 .f32) (y : S1x16x2048.Idx) :
    (k1_pay2 (F := Ideal) x y : EReal) = x (ix2 (y 1) (y 2)) := by
  have e : y = ix3 (0 : Fin 1) (y 1) (y 2) :=
    (eq_ix3 y).trans (congrArg (fun a : Fin 1 => ix3 a (y 1) (y 2)) (Subsingleton.elim (α := Fin 1) (y 0) 0))
  exact (congrArg (k1_pay2 (F := Ideal) x) e).trans (stateOut_apply x (y 1) (y 2))

/-- A stored last row, at any index of its block. -/
theorem rowOut_at (x : FVec Ideal S1x2048 .f32) (y : S1x1x2048.Idx) :
    (k1_pay3 (F := Ideal) x y : EReal) = x (ix2 0 (y 2)) := by
  have e : y = ix3 (0 : Fin 1) (0 : Fin 1) (y 2) :=
    (eq_ix3 y).trans (congrArg₂ (fun a b : Fin 1 => ix3 a b (y 2)) (Subsingleton.elim (α := Fin 1) (y 0) 0)
      (Subsingleton.elim (α := Fin 1) (y 1) 0))
  exact (congrArg (k1_pay3 (F := Ideal) x) e).trans (rowOut_apply x (y 2))

/-- Each batch's state after its last chunk. -/
def lastStates (c : Dev nD) : FVec Ideal S4x16x2048 .f32 := fun i => hV V c (8 * (i 0).val + 7) (ix2 (i 1) (i 2))

/-- Each batch's last row of convolved inputs. -/
def lastRows (c : Dev nD) : FVec Ideal S4x1x2048 .f32 := fun i => xV V c (8 * (i 0).val + 7) (ix2 255 (i 2))

/-- The scan call leaves each batch's last state. -/
theorem arr1_8 (c : Dev nD) : (dat1 V c).arrAt 8 cfg1.N = lastStates V c := by
  refine (dat1 V c).arrAt_eq_of_covers 8 _ (by decide +kernel) fun t hf y => ?_
  blk_simp
  rw [after1_8]
  refine (stateOut_at _ y).trans ?_
  have ht := f1_8 t hf
  have e1 : (win1_8.blk t).view.emb y 1 = y 1 := Fin.ext (by blk_simp [e1_8])
  have e2 : (win1_8.blk t).view.emb y 2 = y 2 := Fin.ext (by blk_simp [e1_8])
  have e0 : 8 * ((win1_8.blk t).view.emb y 0).val + 7 = t.val := by
    have hy : (y 0).val < 1 := (y 0).isLt
    blk_simp [e1_8]
    omega
  unfold lastStates
  rw [e0]
  exact congrArg₂ (fun a b => hV V c t.val (ix2 a b)) e1.symm e2.symm

/-- The scan call leaves each batch's last row. -/
theorem arr1_9 (c : Dev nD) : (dat1 V c).arrAt 9 cfg1.N = lastRows V c := by
  refine (dat1 V c).arrAt_eq_of_covers 9 _ (by decide +kernel) fun t hf y => ?_
  blk_simp
  rw [after1_9]
  refine (rowOut_at _ y).trans ((lastRow_apply _ (y 2)).trans ?_)
  have ht := f1_9 t hf
  have e2 : (win1_9.blk t).view.emb y 2 = y 2 := Fin.ext (by blk_simp [e1_9])
  have e0 : 8 * ((win1_9.blk t).view.emb y 0).val + 7 = t.val := by
    have hy : (y 0).val < 1 := (y 0).isLt
    blk_simp [e1_9]
    omega
  unfold lastRows
  rw [e0]
  exact congrArg (fun b => xV V c t.val (ix2 255 b)) e2.symm

/-- The last call's one point. -/
abbrev t2_last : Fin cfg2.N := ⟨0, by decide +kernel⟩

/-- The epilogue of the last call's operands. -/
def epiOf (c : Dev nD) : FVec Ideal S4x1024 .f32 :=
  epi (F := Ideal) (V c main_v12) (V c main_v13) (V c main_v1) (V c main_v9_0) (V c main_v14) (V c main_v15) (V c main_v16)
    (V c main_arg10) (V c main_arg11) (V c main_v17)

/-- The last call leaves the epilogue of its operands. -/
theorem arr2 (c : Dev nD) : (dat2 V c).arrAt 10 cfg2.N = epiOf V c := by
  refine (dat2 V c).arrAt_eq_of_after_last 10 t2_last (by decide +kernel) _ fun j => ?_
  rw [after2_10, iblk2_0, iblk2_1, iblk2_2, iblk2_3, iblk2_4, iblk2_5, iblk2_6, iblk2_7, iblk2_8, iblk2_9]
  rfl

end Cert.KernelIdeal.Proof
-- ==== Proof.KernelIdeal.Result.lean ====
/-
  The kernel's result is the logits of its arguments.
-/
module

public import proofs.«01_k».proof.Proof.KernelIdeal.Arrays

@[expose] public section

set_option maxRecDepth 16384

noncomputable section

namespace Cert.KernelIdeal.Proof

open Cert.KernelIdeal
open Cert.KernelIdeal.Gen hiding V0 V1 V2 V3 V4 V5 V6 segs adm
open Idealize.ShloMosaic Idealize.ShloMosaic.TcCoe Idealize.ShloMosaic.Tactic
open Cert (Model.Args)

variable (m : (ℓ : Loc nD τ sig) → Buf (Elt Ideal) ℓ) (c : Dev nD)

/-- The arguments that the memory holds. -/
def argsOf : Model.Args where
  tok := m ((c : Thread nD τ).loc main_arg0)
  emb := m ((c : Thread nD τ).loc main_arg1)
  win := m ((c : Thread nD τ).loc main_arg2)
  cw := m ((c : Thread nD τ).loc main_arg3)
  cb := m ((c : Thread nD τ).loc main_arg4)
  xp := m ((c : Thread nD τ).loc main_arg5)
  dw := m ((c : Thread nD τ).loc main_arg6)
  db := m ((c : Thread nD τ).loc main_arg7)
  alog := m ((c : Thread nD τ).loc main_arg8)
  dskip := m ((c : Thread nD τ).loc main_arg9)
  ow := m ((c : Thread nD τ).loc main_arg10)
  fw := m ((c : Thread nD τ).loc main_arg11)
  fb := m ((c : Thread nD τ).loc main_arg12)

/-! ## What the host operations before each call compute -/

/-- The first half of the input projection's columns. -/
theorem B1_v0 : (B1 m c main_v0 : FVec Ideal S1024x2048 .f32)
    = extractStridedSlice S1024x2048 ![0, 0] (B0 m c main_arg2) slices_S1024x4096_S1024x2048_0_0 := by
  unfold_abbrev_sides
  after_results

/-- The second half of the input projection's columns. -/
theorem B1_v1 : (B1 m c main_v1 : FVec Ideal S1024x2048 .f32)
    = extractStridedSlice S1024x2048 ![0, 2048] (B0 m c main_arg2) slices_S1024x4096_S1024x2048_0_2048 := by
  unfold_abbrev_sides
  after_results

/-- The projected table, with a unit axis. -/
theorem B3_v3 : (B3 m c main_v3 : FVec Ideal S1024x1x2048 .f32)
    = shapeCast S1024x1x2048 (B2 m c main_v2) shapeCasts_S1024x2048_S1024x1x2048 := by
  unfold_abbrev_sides
  after_results
  rfl

/-- The convolution's weights, by tap, with a unit axis. -/
theorem B3_v5 : (B3 m c main_v5 : FVec Ideal S4x1x2048 .f32)
    = shapeCast S4x1x2048 (transpose S4x2048 [1, 0] (B2 m c main_arg3) transposes_S2048x4_S4x2048_1_0) shapeCasts_S4x2048_S4x1x2048 := by
  unfold_abbrev_sides
  after_results
  rfl

/-- The convolution's bias, with two unit axes. -/
theorem B3_v6 : (B3 m c main_v6 : FVec Ideal S1x1x2048 .f32)
    = shapeCast S1x1x2048 (B2 m c main_arg4) shapeCasts_S2048_S1x1x2048 := by
  unfold_abbrev_sides
  after_results
  rfl

/-- The step size's bias, as a row. -/
theorem B3_v7 : (B3 m c main_v7 : FVec Ideal S1x2048 .f32)
    = shapeCast S1x2048 (B2 m c main_arg7) shapeCasts_S2048_S1x2048 := by
  unfold_abbrev_sides
  after_results
  rfl

/-- The logarithms of the decay rates, by state. -/
theorem B3_v8 : (B3 m c main_v8 : FVec Ideal S16x2048 .f32)
    = transpose S16x2048 [1, 0] (B2 m c main_arg8) transposes_S2048x16_S16x2048_1_0 := by
  unfold_abbrev_sides
  after_results

/-- The embedding table, with a unit axis. -/
theorem B5_v13 : (B5 m c main_v13 : FVec Ideal S1024x1x1024 .f32)
    = shapeCast S1024x1x1024 (B4 m c main_arg1) shapeCasts_S1024x1024_S1024x1x1024 := by
  unfold_abbrev_sides
  after_results
  rfl

/-- The last feature rows, without their unit axis. -/
theorem B5_v14 : (B5 m c main_v14 : FVec Ideal S4x2048 .f32)
    = shapeCast S4x2048 (B4 m c main_v9_1) shapeCasts_S4x1x2048_S4x2048 := by
  unfold_abbrev_sides
  after_results
  rfl

/-- The output coefficients' columns of the projection. -/
theorem B5_v15 : (B5 m c main_v15 : FVec Ideal S2048x16 .f32)
    = extractStridedSlice S2048x16 ![0, 80] (B4 m c main_arg5) slices_S2048x96_S2048x16_0_80 := by
  unfold_abbrev_sides
  after_results

/-- The skip weights, as a row. -/
theorem B5_v16 : (B5 m c main_v16 : FVec Ideal S1x2048 .f32)
    = shapeCast S1x2048 (B4 m c main_arg9) shapeCasts_S2048_S1x2048 := by
  unfold_abbrev_sides
  after_results
  rfl

/-- The head's bias, as a row. -/
theorem B5_v17 : (B5 m c main_v17 : FVec Ideal S1x1024 .f32)
    = shapeCast S1x1024 (B4 m c main_arg12) shapeCasts_S1024_S1x1024 := by
  unfold_abbrev_sides
  after_results
  rfl

/-! ## The scan call's operands -/

/-- The table against the first half of the projection's columns. -/
theorem tableOf_slice (a : Model.Args) (v : Fin 1024) (d : Fin 2048) :
    tableOf a.emb (extractStridedSlice S1024x2048 ![0, 0] a.win slices_S1024x4096_S1024x2048_0_0) (ix2 v d)
      = Model.lin a v ⟨d.val, by omega⟩ := by
  unfold tableOf Model.lin
  refine Finset.sum_congr rfl fun k _ => congrArg₂ (· * ·) rfl ?_
  pointwise

/-- The first call's result is the scan half of the input projection, row by token. -/
theorem B2_v2 (v : Fin 1024) (d : Fin 2048) :
    (B2 m c main_v2 : FVec Ideal S1024x2048 .f32) (ix2 v d) = Model.lin (argsOf m c) v ⟨d.val, by omega⟩ := by
  have h : (B2 m c main_v2 : FVec Ideal S1024x2048 .f32) = tableOf (E0 m c main_arg1) (E0 m c main_v0) :=
    (B2_arr m c 2).trans (arr0 (E0 m) c)
  rw [h, show E0 m c main_arg1 = _ from B1_args m c main_arg1 (by decide), show E0 m c main_v0 = _ from B1_v0 m c]
  exact tableOf_slice (argsOf m c) v d

/-- Row `v` of the table that call 1 reads is the input projection of token `v`. -/
theorem v3_apply (v : Fin 1024) (d : Fin 2048) :
    (E1 m c main_v3 : FVec Ideal S1024x1x2048 .f32) (ix3 v 0 d) = Model.lin (argsOf m c) v ⟨d.val, by omega⟩ := by
  rw [show E1 m c main_v3 = _ from B3_v3 m c, ← B2_v2]
  pointwise

/-- Tap `j` of the weights that call 1 reads. -/
theorem v5_apply (j : Fin 4) (d : Fin 2048) :
    (E1 m c main_v5 : FVec Ideal S4x1x2048 .f32) (ix3 j 0 d) = (argsOf m c).cw (ix2 d j) := by
  rw [show E1 m c main_v5 = _ from B3_v5 m c, show B2 m c main_arg3 = _ from B2_args m c main_arg3 (by decide)]
  pointwise
  rfl

/-- The convolution's bias that call 1 reads. -/
theorem v6_apply (d : Fin 2048) : (E1 m c main_v6 : FVec Ideal S1x1x2048 .f32) (ix3 0 0 d) = (argsOf m c).cb (ix1 d) := by
  rw [show E1 m c main_v6 = _ from B3_v6 m c, show B2 m c main_arg4 = _ from B2_args m c main_arg4 (by decide)]
  pointwise
  rfl

/-- The step size's bias that call 1 reads. -/
theorem v7_apply (d : Fin 2048) : (E1 m c main_v7 : FVec Ideal S1x2048 .f32) (ix2 0 d) = (argsOf m c).db (ix1 d) := by
  rw [show E1 m c main_v7 = _ from B3_v7 m c, show B2 m c main_arg7 = _ from B2_args m c main_arg7 (by decide)]
  pointwise
  rfl

/-- The logarithms of the decay rates that call 1 reads. -/
theorem v8_apply (n : Fin 16) (d : Fin 2048) : (E1 m c main_v8 : FVec Ideal S16x2048 .f32) (ix2 n d) = (argsOf m c).alog (ix2 d n) := by
  rw [show E1 m c main_v8 = _ from B3_v8 m c, show B2 m c main_arg8 = _ from B2_args m c main_arg8 (by decide)]
  pointwise
  rfl

/-- The scan call's arrays hold the arguments. -/
theorem holds1 : Holds (argsOf m c) (E1 m c main_arg0) (E1 m c main_v3) (E1 m c main_v5) (E1 m c main_v6) (E1 m c main_arg5)
    (E1 m c main_arg6) (E1 m c main_v7) (E1 m c main_v8) where
  tok := B3_args m c main_arg0 (by decide)
  eg := v3_apply m c
  cw := v5_apply m c
  cb := v6_apply m c
  xp := B3_args m c main_arg5 (by decide)
  dw := B3_args m c main_arg6 (by decide)
  db := v7_apply m c
  al := v8_apply m c

/-! ## The scan call's results -/

/-- The scan call leaves each batch's state after all 2048 steps. -/
theorem B4_v9_0 (b : Fin 4) (n : Fin 16) (d : Fin 2048) :
    (B4 m c main_v9_0 : FVec Ideal S4x16x2048 .f32) (ix3 b n d) = Model.state (argsOf m c) b 2048 d n := by
  have h : (B4 m c main_v9_0 : FVec Ideal S4x16x2048 .f32) = lastStates (E1 m) c := (B4_arr m c 8).trans (arr1_8 (E1 m) c)
  rw [h]
  exact hAt_model (holds1 m c) b n d 7 (by decide)

/-- The scan call leaves each batch's last row of convolved inputs. -/
theorem B4_v9_1 (b : Fin 4) (d : Fin 2048) :
    (B4 m c main_v9_1 : FVec Ideal S4x1x2048 .f32) (ix3 b 0 d) = Model.xc (argsOf m c) b 2047 d := by
  have h : (B4 m c main_v9_1 : FVec Ideal S4x1x2048 .f32) = lastRows (E1 m) c := (B4_arr m c 9).trans (arr1_9 (E1 m) c)
  rw [h]
  exact xcAt_apply (holds1 m c) b 7 (by decide) 255 d

/-! ## The last call's operands -/

/-- The tokens that call 2 reads are the last ones. -/
theorem v12_apply (b : Fin 4) : (E2 m c main_v12 : IVec S1x4 32) (ix2 0 b) = (argsOf m c).tok (ix2 b 2047) := by
  rw [show E2 m c main_v12 = _ from E2_tokens m c, show B4 m c main_arg0 = _ from B4_args m c main_arg0 (by decide)]
  pointwise
  rfl

/-- The embedding table that call 2 reads. -/
theorem v13_apply (v e : Fin 1024) : (E2 m c main_v13 : FVec Ideal S1024x1x1024 .f32) (ix3 v 0 e) = (argsOf m c).emb (ix2 v e) := by
  rw [show E2 m c main_v13 = _ from B5_v13 m c, show B4 m c main_arg1 = _ from B4_args m c main_arg1 (by decide)]
  pointwise
  rfl

/-- The gate's weight that call 2 reads. -/
theorem v1_apply (e : Fin 1024) (d : Fin 2048) :
    (E2 m c main_v1 : FVec Ideal S1024x2048 .f32) (ix2 e d) = (argsOf m c).win (ix2 e ⟨2048 + d.val, by omega⟩) := by
  have h : (E2 m c main_v1 : FVec Ideal S1024x2048 .f32) = B1 m c main_v1 :=
    (B5_of m c main_v1 (by decide)).trans ((B4_of m c main_v1 (by decide)).trans
      ((B3_of m c main_v1 (by decide)).trans (B2_of m c main_v1 (by decide))))
  rw [h, show B1 m c main_v1 = _ from B1_v1 m c]
  pointwise
  rfl

/-- The states that call 2 reads are the model's last states. -/
theorem v9_0_apply (b : Fin 4) (n : Fin 16) (d : Fin 2048) :
    (E2 m c main_v9_0 : FVec Ideal S4x16x2048 .f32) (ix3 b n d) = Model.state (argsOf m c) b 2048 d n := by
  rw [show E2 m c main_v9_0 = _ from B5_of m c main_v9_0 (by decide)]
  exact B4_v9_0 m c b n d

/-- The feature rows that call 2 reads are the model's last rows. -/
theorem v14_apply (b : Fin 4) (d : Fin 2048) :
    (E2 m c main_v14 : FVec Ideal S4x2048 .f32) (ix2 b d) = Model.xc (argsOf m c) b 2047 d := by
  rw [show E2 m c main_v14 = _ from B5_v14 m c, ← B4_v9_1]
  pointwise

/-- The output coefficients' weight that call 2 reads. -/
theorem v15_apply (e : Fin 2048) (n : Fin 16) :
    (E2 m c main_v15 : FVec Ideal S2048x16 .f32) (ix2 e n) = (argsOf m c).xp (ix2 e ⟨80 + n.val, by omega⟩) := by
  rw [show E2 m c main_v15 = _ from B5_v15 m c, show B4 m c main_arg5 = _ from B4_args m c main_arg5 (by decide)]
  pointwise
  rfl

/-- The skip weights that call 2 reads. -/
theorem v16_apply (d : Fin 2048) : (E2 m c main_v16 : FVec Ideal S1x2048 .f32) (ix2 0 d) = (argsOf m c).dskip (ix1 d) := by
  rw [show E2 m c main_v16 = _ from B5_v16 m c, show B4 m c main_arg9 = _ from B4_args m c main_arg9 (by decide)]
  pointwise
  rfl

/-- The head's bias that call 2 reads. -/
theorem v17_apply (j : Fin 1024) : (E2 m c main_v17 : FVec Ideal S1x1024 .f32) (ix2 0 j) = (argsOf m c).fb (ix1 j) := by
  rw [show E2 m c main_v17 = _ from B5_v17 m c, show B4 m c main_arg12 = _ from B4_args m c main_arg12 (by decide)]
  pointwise
  rfl

/-! ## The result -/

/-- The epilogue of operands that hold the arguments, the states and the last rows is the logits. -/
theorem epi_model (a : Model.Args) (tok : IVec S1x4 32) (e3 : FVec Ideal S1024x1x1024 .f32) (wz : FVec Ideal S1024x2048 .f32)
    (hs : FVec Ideal S4x16x2048 .f32) (xl : FVec Ideal S4x2048 .f32) (wc : FVec Ideal S2048x16 .f32) (dd : FVec Ideal S1x2048 .f32)
    (fb : FVec Ideal S1x1024 .f32)
    (htok : ∀ b, tok (ix2 0 b) = a.tok (ix2 b 2047)) (he3 : ∀ v e, e3 (ix3 v 0 e) = a.emb (ix2 v e))
    (hwz : ∀ (e : Fin 1024) (d : Fin 2048), wz (ix2 e d) = a.win (ix2 e ⟨2048 + d.val, by omega⟩))
    (hhs : ∀ b n d, hs (ix3 b n d) = Model.state a b 2048 d n) (hxl : ∀ b d, xl (ix2 b d) = Model.xc a b 2047 d)
    (hwc : ∀ (e : Fin 2048) (n : Fin 16), wc (ix2 e n) = a.xp (ix2 e ⟨80 + n.val, by omega⟩))
    (hdd : ∀ d, dd (ix2 0 d) = a.dskip (ix1 d)) (hfb : ∀ j, fb (ix2 0 j) = a.fb (ix1 j)) (b : Fin 4) (j : Fin 1024) :
    (epi (F := Ideal) tok e3 wz hs xl wc dd a.ow a.fw fb (ix2 b j) : EReal) = Model.logits a b j := by
  rw [epi_apply]
  simp only [htok, he3, hwz, hhs, hxl, hwc, hdd, hfb]
  unfold Model.logits Model.gated Model.scanned Model.ccoef Model.proj Model.lin
  rfl

/-- What the kernel leaves in its result array is the logits of its arguments. -/
theorem result_value (b : Fin 4) (j : Fin 1024) :
    (B6 m c main_v18 : FVec Ideal S4x1024 .f32) (ix2 b j) = Model.logits (argsOf m c) b j := by
  have h : (B6 m c main_v18 : FVec Ideal S4x1024 .f32) = epiOf (E2 m) c := (B6_arr m c 10).trans (arr2 (E2 m) c)
  rw [h]
  unfold epiOf
  rw [show E2 m c main_arg10 = _ from B5_args m c main_arg10 (by decide),
    show E2 m c main_arg11 = _ from B5_args m c main_arg11 (by decide)]
  exact epi_model (argsOf m c) _ _ _ _ _ _ _ _ (v12_apply m c) (v13_apply m c) (v1_apply m c) (v9_0_apply m c) (v14_apply m c)
    (v15_apply m c) (v16_apply m c) (v17_apply m c) b j

end Cert.KernelIdeal.Proof
-- ==== Proof.ReferenceIdeal.Gather.lean ====
/-
  The reference's embedding lookup, one element at a time.
-/
module

public import proofs.«01_k».proof.Proof.Gen.ReferenceIdeal.Run
public import proofs.«01_k».proof.Proof.Model
public import Idealize.ShloMosaic.Lib.Pointwise

@[expose] public section

set_option maxRecDepth 16384

noncomputable section

namespace Cert.ReferenceIdeal.Proof

open Cert.ReferenceIdeal Cert.ReferenceIdeal.Gen
open Idealize.ShloMosaic

/-- The lookup's dimension numbers. -/
abbrev dims : GatherDims S1024x1024 S4x2048x1 S4x2048x1024 := gather_S1024x1024_S4x2048x1_S4x2048x1024_2_0_n_n_0_2_11024

/-- A looked-up row is the table's row at the index, clamped to the table. -/
theorem gather_apply (x : FVec Ideal S1024x1024 .f32) (idx : IVec S4x2048x1 32) (b : Fin 4) (t : Fin 2048) (k : Fin 1024) :
    Host.gather dims x idx (ix3 b t k) = x (ix2 ⟨min (idx (ix3 b t 0)).toInt.toNat 1023, by omega⟩ k) := by
  unfold Host.gather
  refine congrArg x (funext fun a => Fin.ext ?_)
  show dims.start (ix3 b t k) idx a + dims.batchCoord (ix3 b t k) a + dims.offCoord (ix3 b t k) a = _
  rw [GatherDims.batchCoord_eq_zero _ _ _ List.not_mem_nil, Nat.add_zero]
  have e : dims.siIdx (ix3 b t k) ⟨List.idxOf (0 : Fin 2) dims.startIndexMap,
      List.idxOf_lt_length_iff.2 (List.mem_singleton.mpr rfl)⟩ = ix3 b t 0 := by
    funext p
    refine Fin.ext ?_
    fin_cases p <;> rfl
  match a with
  | ⟨0, _⟩ =>
    show dims.start (ix3 b t k) idx (0 : Fin 2) + dims.offCoord (ix3 b t k) (0 : Fin 2) = _
    rw [GatherDims.offCoord_eq_zero _ _ _ (fun h => ((GatherDims.mem_sKept _ _).mp h).1 (List.mem_singleton.mpr rfl)), Nat.add_zero]
    unfold GatherDims.start
    rw [dif_pos (show (0 : Fin 2) ∈ dims.startIndexMap from List.mem_singleton.mpr rfl)]
    exact congrArg (fun i => min (idx i).toInt.toNat 1023) e
  | ⟨1, _⟩ =>
    show dims.start (ix3 b t k) idx (1 : Fin 2) + dims.offCoord (ix3 b t k) (1 : Fin 2) = _
    have e1 : dims.start (ix3 b t k) idx (1 : Fin 2) = 0 := by
      unfold GatherDims.start
      rw [dif_neg (show ¬ (1 : Fin 2) ∈ dims.startIndexMap by decide)]
    rw [e1, Nat.zero_add]
    rfl

/-- The index that is looked up: the token, wrapped by the table's length if it is negative. -/
def tokIdx (tok : IVec S4x2048 32) : IVec S4x2048x1 32 :=
  broadcastInDim S4x2048x1 ![0, 1] bcast_S4x2048_S4x2048x1_0_1
    (select (cmpi .slt tok (broadcastInDim S4x2048 ![] bcast_S_S4x2048 (constantI S_ 32 0#32)))
      (addi tok (broadcastInDim S4x2048 ![] bcast_S_S4x2048 (constantI S_ 32 1024#32))) tok)

/-- A token in range is looked up as it is. -/
theorem tokIdx_apply (tok : IVec S4x2048 32) (h : ∀ y, (tok y).toNat < 1024) (b : Fin 4) (t : Fin 2048) :
    tokIdx tok (ix3 b t 0) = tok (ix2 b t) := by
  have hn : (tok (ix2 b t)).toInt = (tok (ix2 b t)).toNat :=
    BitVec.toInt_eq_toNat_of_lt (by have := h (ix2 b t); omega)
  pointwise [tokIdx]
  have hc : IntOp.cmpi .slt (tok (ix2 b t)) 0#32 = 0#1 := by
    have : BitVec.slt (tok (ix2 b t)) 0#32 = false := by
      rw [BitVec.slt_eq_decide, hn]
      simp
    show BitVec.ofBool (BitVec.slt (tok (ix2 b t)) 0#32) = 0#1
    rw [this]
    rfl
  rw [hc]
  rfl

end Cert.ReferenceIdeal.Proof
-- ==== Proof.ReferenceIdeal.Stretch.lean ====
/-
  What each of the reference's stretches of operations leaves in the arrays that the later ones read.
-/
module

public import proofs.«01_k».proof.Proof.ReferenceIdeal.Gather
public import Idealize.ShloMosaic.Lib.Claim

@[expose] public section

set_option maxRecDepth 16384

noncomputable section

namespace Cert.ReferenceIdeal.Proof

open Cert.ReferenceIdeal Cert.ReferenceIdeal.Gen Cert.ReferenceIdeal.Value
open Idealize.ShloMosaic Idealize.ShloMosaic.TcCoe Idealize.ShloMosaic.Tactic
open Idealize.ShloMosaic.StableHlo

variable (V : Valuation τ sig (Elt Ideal))

/-- The input projection of every token. -/
def linArr (tok : IVec S4x2048 32) (e : FVec Ideal S1024x1024 .f32) (w : FVec Ideal S1024x4096 .f32) : FVec Ideal S4x2048x4096 .f32 :=
  Host.dotGeneral dot_S4x2048x1024_S1024x4096_S4x2048x4096_2_0_01_1_n_n none
    (Host.gather gather_S1024x1024_S4x2048x1_S4x2048x1024_2_0_n_n_0_2_11024 e (tokIdx tok)) w

/-- Stretch 0 leaves the scan branch's features. -/
theorem st0_v8 : (after hostOps0 V main_v8 : FVec Ideal S4x2048x2048 .f32)
    = extractStridedSlice S4x2048x2048 ![0, 0, 0] (linArr (V main_arg0) (V main_arg1) (V main_arg2)) slices_S4x2048x4096_S4x2048x2048_0_0_0 := by
  after_results
  rfl

/-- Stretch 0 leaves the gate's features. -/
theorem st0_v9 : (after hostOps0 V main_v9 : FVec Ideal S4x2048x2048 .f32)
    = extractStridedSlice S4x2048x2048 ![0, 0, 2048] (linArr (V main_arg0) (V main_arg1) (V main_arg2)) slices_S4x2048x4096_S4x2048x2048_0_0_2048 := by
  after_results
  rfl

/-- Stretch 0 leaves the padding's zero. -/
theorem st0_c1 : (after hostOps0 V main_c_1 : IVec S_ 32) = constantI S_ 32 0#32 := by
  after_results

/-- The features with three rows of a value, given as an integer, before the first token. -/
def padArr (x : FVec Ideal S4x2048x2048 .f32) (z : IVec S_ 32) : FVec Ideal S4x2051x2048 .f32 :=
  pad S4x2051x2048 ![0, 3, 0] ![0, 0, 0] ![0, 0, 0] x (sitofp (F := Ideal) .f32 z : FVec Ideal S_ .f32)
    pads_S4x2048x2048_S4x2051x2048_000_300_000 h_S_

/-- Stretch 1 leaves the padded features. -/
theorem st1_v10 : (after hostOps0_1 V main_v10 : FVec Ideal S4x2051x2048 .f32) = padArr (V main_v8) (V main_c_1) := by
  after_results
  rfl

/-- One tap of the convolution: the padded features from `j` on times the weights' column `j`. -/
def tapArr (p : FVec Ideal S4x2051x2048 .f32) (w : FVec Ideal S2048x1 .f32) (o : Fin 3 → ℕ) (h : S4x2051x2048.Slices o S4x2048x2048) :
    FVec Ideal S4x2048x2048 .f32 :=
  mulf (extractStridedSlice S4x2048x2048 o p h)
    (broadcastInDim S4x2048x2048 ![0, 1, 2] bcast_S1x1x2048_S4x2048x2048_0_1_2
      (broadcastInDim S1x1x2048 ![2] bcast_S2048_S1x1x2048_2 (shapeCast S2048 w shapeCasts_S2048x1_S2048)))

/-- The convolution with its bias. -/
def convArr (p : FVec Ideal S4x2051x2048 .f32) (w : FVec Ideal S2048x4 .f32) (b : FVec Ideal S2048 .f32) : FVec Ideal S4x2048x2048 .f32 :=
  addf (broadcastInDim S4x2048x2048 ![0, 1, 2] bcast_S1x1x2048_S4x2048x2048_0_1_2 (broadcastInDim S1x1x2048 ![2] bcast_S2048_S1x1x2048_2 b))
    (addf (addf (addf (addf (broadcastInDim S4x2048x2048 ![] bcast_S_S4x2048x2048 (constant S_ .f32 0x00000000#32))
      (tapArr p (extractStridedSlice S2048x1 ![0, 0] w slices_S2048x4_S2048x1_0_0) ![0, 0, 0] slices_S4x2051x2048_S4x2048x2048_0_0_0))
      (tapArr p (extractStridedSlice S2048x1 ![0, 1] w slices_S2048x4_S2048x1_0_1) ![0, 1, 0] slices_S4x2051x2048_S4x2048x2048_0_1_0))
      (tapArr p (extractStridedSlice S2048x1 ![0, 2] w slices_S2048x4_S2048x1_0_2) ![0, 2, 0] slices_S4x2051x2048_S4x2048x2048_0_2_0))
      (tapArr p (extractStridedSlice S2048x1 ![0, 3] w slices_S2048x4_S2048x1_0_3) ![0, 3, 0] slices_S4x2051x2048_S4x2048x2048_0_3_0))

/-- Stretch 2 leaves the convolution. -/
theorem st2_v42 : (after hostOps0_2 V main_v42 : FVec Ideal S4x2048x2048 .f32) = convArr (V main_v10) (V main_arg3) (V main_arg4) := by
  after_results
  rfl

/-- The activation of an array. -/
def siluArr (x : FVec Ideal S4x2048x2048 .f32) : FVec Ideal S4x2048x2048 .f32 :=
  mulf x (Host.divf (broadcastInDim S4x2048x2048 ![] bcast_S_S4x2048x2048 (constant S_ .f32 0x3F800000#32))
    (addf (broadcastInDim S4x2048x2048 ![] bcast_S_S4x2048x2048 (constant S_ .f32 0x3F800000#32)) (Host.exp (Host.negf x))))

/-- Stretch 3 leaves its activation. -/
theorem st3_v43 : (after hostOps0_3 V main_v43 : FVec Ideal S4x2048x2048 .f32) = siluArr (V main_v42) := by
  after_results
  rfl

/-- The projection of every row. -/
def projArr (x : FVec Ideal S4x2048x2048 .f32) (w : FVec Ideal S2048x96 .f32) : FVec Ideal S4x2048x96 .f32 :=
  Host.dotGeneral dot_S4x2048x2048_S2048x96_S4x2048x96_2_0_01_1_n_n none x w

/-- Stretch 4 leaves the input coefficients. -/
theorem st4_v46 : (after hostOps0_4 V main_v46 : FVec Ideal S4x2048x16 .f32)
    = extractStridedSlice S4x2048x16 ![0, 0, 64] (projArr (V main_v43) (V main_arg5)) slices_S4x2048x96_S4x2048x16_0_0_64 := by
  after_results
  rfl

/-- Stretch 4 leaves the output coefficients. -/
theorem st4_v47 : (after hostOps0_4 V main_v47 : FVec Ideal S4x2048x16 .f32)
    = extractStridedSlice S4x2048x16 ![0, 0, 80] (projArr (V main_v43) (V main_arg5)) slices_S4x2048x96_S4x2048x16_0_0_80 := by
  after_results
  rfl

/-- The step sizes before the softplus. -/
def preArr (x : FVec Ideal S4x2048x2048 .f32) (w : FVec Ideal S2048x96 .f32) (dw : FVec Ideal S64x2048 .f32) (db : FVec Ideal S2048 .f32) :
    FVec Ideal S4x2048x2048 .f32 :=
  addf (Host.dotGeneral dot_S4x2048x64_S64x2048_S4x2048x2048_2_0_01_1_n_n none
      (extractStridedSlice S4x2048x64 ![0, 0, 0] (projArr x w) slices_S4x2048x96_S4x2048x64_0_0_0) dw)
    (broadcastInDim S4x2048x2048 ![0, 1, 2] bcast_S1x1x2048_S4x2048x2048_0_1_2 (broadcastInDim S1x1x2048 ![2] bcast_S2048_S1x1x2048_2 db))

/-- Stretch 4 leaves the step sizes before the softplus. -/
theorem st4_v51 : (after hostOps0_4 V main_v51 : FVec Ideal S4x2048x2048 .f32) = preArr (V main_v43) (V main_arg5) (V main_arg6) (V main_arg7) := by
  after_results
  rfl

/-- The softplus of an array. -/
def softplusArr (x : FVec Ideal S4x2048x2048 .f32) : FVec Ideal S4x2048x2048 .f32 :=
  select (cmpf .une (subf x (broadcastInDim S4x2048x2048 ![] bcast_S_S4x2048x2048 (constant S_ .f32 0x00000000#32)))
      (subf x (broadcastInDim S4x2048x2048 ![] bcast_S_S4x2048x2048 (constant S_ .f32 0x00000000#32))))
    (addf x (broadcastInDim S4x2048x2048 ![] bcast_S_S4x2048x2048 (constant S_ .f32 0x00000000#32)))
    (addf (maximumf x (broadcastInDim S4x2048x2048 ![] bcast_S_S4x2048x2048 (constant S_ .f32 0x00000000#32)))
      (Host.log1p (Host.exp (Host.negf (Host.absf (subf x (broadcastInDim S4x2048x2048 ![] bcast_S_S4x2048x2048 (constant S_ .f32 0x00000000#32))))))))

/-- Stretch 5 leaves the step sizes. -/
theorem st5_v52 : (after hostOps0_5 V main_v52 : FVec Ideal S4x2048x2048 .f32) = softplusArr (V main_v51) := by
  after_results
  rfl

/-- Stretch 6 leaves the step sizes by time. -/
theorem st6_v61_0 : (after hostOps0_6 V main_v61_0 : FVec Ideal S2048x4x2048 .f32)
    = transpose S2048x4x2048 [1, 0, 2] (V main_v52 : FVec Ideal S4x2048x2048 .f32) transposes_S4x2048x2048_S2048x4x2048_1_0_2 := by
  after_results
  rfl

/-- Stretch 6 leaves the input coefficients by time. -/
theorem st6_v61_1 : (after hostOps0_6 V main_v61_1 : FVec Ideal S2048x4x16 .f32)
    = transpose S2048x4x16 [1, 0, 2] (V main_v46 : FVec Ideal S4x2048x16 .f32) transposes_S4x2048x16_S2048x4x16_1_0_2 := by
  after_results
  rfl

/-- Stretch 6 leaves the output coefficients by time. -/
theorem st6_v61_2 : (after hostOps0_6 V main_v61_2 : FVec Ideal S2048x4x16 .f32)
    = transpose S2048x4x16 [1, 0, 2] (V main_v47 : FVec Ideal S4x2048x16 .f32) transposes_S4x2048x16_S2048x4x16_1_0_2 := by
  after_results
  rfl

/-- Stretch 6 leaves the features by time. -/
theorem st6_v61_3 : (after hostOps0_6 V main_v61_3 : FVec Ideal S2048x4x2048 .f32)
    = transpose S2048x4x2048 [1, 0, 2] (V main_v43 : FVec Ideal S4x2048x2048 .f32) transposes_S4x2048x2048_S2048x4x2048_1_0_2 := by
  after_results
  rfl

/-- The decay rates. -/
def rateArr (x : FVec Ideal S2048x16 .f32) : FVec Ideal S2048x16 .f32 :=
  Host.negf (Host.exp x)

/-- Stretch 6 leaves the decay rates. -/
theorem st6_v61_4 : (after hostOps0_6 V main_v61_4 : FVec Ideal S2048x16 .f32) = rateArr (V main_arg8) := by
  after_results
  rfl

/-- The scan's first state. -/
def zeroArr : FVec Ideal S4x2048x16 .f32 :=
  broadcastInDim S4x2048x16 ![] bcast_S_S4x2048x16 (constant S_ .f32 0x00000000#32)

/-- Stretch 6 leaves the first state. -/
theorem st6_v61_6 : (after hostOps0_6 V main_v61_6 : FVec Ideal S4x2048x16 .f32) = zeroArr := by
  after_results
  rfl

/-- The scan's output with the skip connection. -/
def skipArr (ys : FVec Ideal S2048x4x2048 .f32) (x : FVec Ideal S4x2048x2048 .f32) (d : FVec Ideal S2048 .f32) : FVec Ideal S4x2048x2048 .f32 :=
  addf (transpose S4x2048x2048 [1, 0, 2] ys transposes_S2048x4x2048_S4x2048x2048_1_0_2)
    (mulf (broadcastInDim S4x2048x2048 ![0, 1, 2] bcast_S1x1x2048_S4x2048x2048_0_1_2 (broadcastInDim S1x1x2048 ![2] bcast_S2048_S1x1x2048_2 d)) x)

/-- Stretch 7 adds the skip connection. -/
theorem st7_v66 : (after hostOps0_7 V main_v66 : FVec Ideal S4x2048x2048 .f32) = skipArr (V main_v61_7) (V main_v43) (V main_arg9) := by
  after_results
  rfl

/-- Stretch 8 activates the gate. -/
theorem st8_v67 : (after hostOps0_8 V main_v67 : FVec Ideal S4x2048x2048 .f32) = siluArr (V main_v9) := by
  after_results
  rfl

/-- The gated rows, projected out, the last token's row, and the head. -/
def headArr (x z : FVec Ideal S4x2048x2048 .f32) (ow : FVec Ideal S2048x1024 .f32) (fw : FVec Ideal S1024x1024 .f32)
    (fb : FVec Ideal S1024 .f32) : FVec Ideal S4x1024 .f32 :=
  addf (Host.dotGeneral dot_S4x1024_S1024x1024_S4x1024_1_0_0_1_n_n none
      (shapeCast S4x1024 (extractStridedSlice S4x1x1024 ![0, 2047, 0]
        (Host.dotGeneral dot_S4x2048x2048_S2048x1024_S4x2048x1024_2_0_01_1_n_n none (mulf x z) ow : FVec Ideal S4x2048x1024 .f32)
        slices_S4x2048x1024_S4x1x1024_0_2047_0) shapeCasts_S4x1x1024_S4x1024) fw)
    (broadcastInDim S4x1024 ![0, 1] bcast_S1x1024_S4x1024_0_1 (broadcastInDim S1x1024 ![1] bcast_S1024_S1x1024_1 fb))

/-- Stretch 9 leaves the logits. -/
theorem st9_v75 : (after hostOps0_9 V main_v75 : FVec Ideal S4x1024 .f32)
    = headArr (V main_v66) (V main_v67) (V main_arg10) (V main_arg11) (V main_arg12) := by
  after_results
  rfl

end Cert.ReferenceIdeal.Proof
-- ==== Proof.ReferenceIdeal.Elems.lean ====
/-
  The reference's arrays, one element at a time, as the model's functions.
-/
module

public import proofs.«01_k».proof.Proof.ReferenceIdeal.Stretch

@[expose] public section

set_option maxRecDepth 16384

noncomputable section

namespace Cert.ReferenceIdeal.Proof

open Cert.ReferenceIdeal Cert.ReferenceIdeal.Gen
open Idealize.ShloMosaic

variable (a : Model.Args)

/-- The looked-up row of a token in range. -/
theorem gather_tok (h : ∀ y, (a.tok y).toNat < 1024) (b : Fin 4) (t : Fin 2048) (k : Fin 1024) :
    Host.gather dims (a.emb : FVec Ideal S1024x1024 .f32) (tokIdx a.tok) (ix3 b t k) = a.emb (ix2 (Model.tokAt a b t.val) k) := by
  rw [gather_apply]
  refine congrArg (fun v => a.emb (ix2 v k)) (Fin.ext ?_)
  have ht := h (ix2 b t)
  have e : (⟨t.val % 2048, Nat.mod_lt _ (by decide)⟩ : Fin 2048) = t := Fin.ext (Nat.mod_eq_of_lt t.isLt)
  show min (tokIdx a.tok (ix3 b t 0)).toInt.toNat 1023 = (a.tok (ix2 b ⟨t.val % 2048, _⟩)).toNat % 1024
  rw [e, tokIdx_apply a.tok h b t, BitVec.toInt_eq_toNat_of_lt (by omega), Int.toNat_natCast, Nat.mod_eq_of_lt ht]
  omega

/-- The input projection. -/
theorem linArr_apply (h : ∀ y, (a.tok y).toNat < 1024) (b : Fin 4) (t : Fin 2048) (e : Fin 4096) :
    linArr a.tok a.emb a.win (ix3 b t e) = Model.lin a (Model.tokAt a b t.val) e := by
  pointwise [linArr]
  exact Finset.sum_congr rfl fun k _ => congrArg (· * a.win (ix2 k e)) (gather_tok a h b t k)

/-- The scan branch's features. -/
theorem v8_apply (h : ∀ y, (a.tok y).toNat < 1024) (b : Fin 4) (t d : Fin 2048) :
    extractStridedSlice S4x2048x2048 ![0, 0, 0] (linArr a.tok a.emb a.win) slices_S4x2048x4096_S4x2048x2048_0_0_0 (ix3 b t d)
      = Model.lin a (Model.tokAt a b t.val) ⟨d.val, by omega⟩ := by
  refine Eq.trans ?_ (linArr_apply a h b t ⟨d.val, by omega⟩)
  pointwise []

/-- The gate's features. -/
theorem v9_apply (h : ∀ y, (a.tok y).toNat < 1024) (b : Fin 4) (t d : Fin 2048) :
    extractStridedSlice S4x2048x2048 ![0, 0, 2048] (linArr a.tok a.emb a.win) slices_S4x2048x4096_S4x2048x2048_0_0_2048 (ix3 b t d)
      = Model.lin a (Model.tokAt a b t.val) ⟨2048 + d.val, by omega⟩ := by
  refine Eq.trans ?_ (linArr_apply a h b t ⟨2048 + d.val, by omega⟩)
  pointwise []

/-- The padded features. -/
theorem padArr_apply (x : FVec Ideal S4x2048x2048 .f32) (b : Fin 4) (s : Fin 2051) (d : Fin 2048) :
    (padArr x (constantI S_ 32 0#32) (ix3 b s d) : EReal) = if h : s.val < 3 then 0 else x (ix3 b ⟨s.val - 3, by omega⟩ d) := by
  pointwise [padArr]
  have hz : (FloatOps.sitofp (F := Ideal) .f32 0#32 : EReal) = 0 := by
    show (((0#32 : BitVec 32).toInt : ℝ) : EReal) = 0
    simp
  by_cases h : s.val < 3
  · rw [dif_neg (by omega), dif_pos h]
    exact hz
  · rw [dif_pos ⟨by omega, by omega⟩, dif_neg h]

/-- The convolution with its bias. -/
theorem convArr_apply (p : FVec Ideal S4x2051x2048 .f32) (w : FVec Ideal S2048x4 .f32) (c : FVec Ideal S2048 .f32) (b : Fin 4) (t d : Fin 2048) :
    (convArr p w c (ix3 b t d) : EReal)
      = c (ix1 d) + (p (ix3 b ⟨t.val, by omega⟩ d) * w (ix2 d 0) + p (ix3 b ⟨t.val + 1, by omega⟩ d) * w (ix2 d 1)
          + p (ix3 b ⟨t.val + 2, by omega⟩ d) * w (ix2 d 2) + p (ix3 b ⟨t.val + 3, by omega⟩ d) * w (ix2 d 3)) := by
  pointwise [convArr, tapArr]
  have e : ∀ (j : ℕ) (hj : j + t.val < 2051) (hj' : t.val + j < 2051), p (ix3 b ⟨j + t.val, hj⟩ d) = p (ix3 b ⟨t.val + j, hj'⟩ d) :=
    fun j _ _ => congrArg (fun i => p (ix3 b i d)) (Fin.ext (Nat.add_comm _ _))
  rw [e 1, e 2, e 3]

/-- The activation. -/
theorem siluArr_apply (x : FVec Ideal S4x2048x2048 .f32) (y : S4x2048x2048.Idx) : siluArr x y = Model.silu (x y) := by
  pointwise [siluArr]
  rfl

/-- The projection of a row. -/
theorem projArr_apply (x : FVec Ideal S4x2048x2048 .f32) (b : Fin 4) (t : Fin 2048) (e : Fin 96) :
    projArr x a.xp (ix3 b t e) = Model.proj a (fun d => x (ix3 b t d)) e := by
  pointwise [projArr]
  rfl

/-- The input coefficients. -/
theorem v46_apply (x : FVec Ideal S4x2048x2048 .f32) (b : Fin 4) (t : Fin 2048) (n : Fin 16) :
    extractStridedSlice S4x2048x16 ![0, 0, 64] (projArr x a.xp) slices_S4x2048x96_S4x2048x16_0_0_64 (ix3 b t n)
      = Model.bcoef a (fun d => x (ix3 b t d)) n := by
  refine Eq.trans ?_ (projArr_apply a x b t ⟨64 + n.val, by omega⟩)
  pointwise []

/-- The output coefficients. -/
theorem v47_apply (x : FVec Ideal S4x2048x2048 .f32) (b : Fin 4) (t : Fin 2048) (n : Fin 16) :
    extractStridedSlice S4x2048x16 ![0, 0, 80] (projArr x a.xp) slices_S4x2048x96_S4x2048x16_0_0_80 (ix3 b t n)
      = Model.ccoef a (fun d => x (ix3 b t d)) n := by
  refine Eq.trans ?_ (projArr_apply a x b t ⟨80 + n.val, by omega⟩)
  pointwise []

/-- The step size before the softplus. -/
theorem preArr_apply (x : FVec Ideal S4x2048x2048 .f32) (b : Fin 4) (t d : Fin 2048) :
    (preArr x a.xp a.dw a.db (ix3 b t d) : EReal)
      = (∑ r : Fin 64, Model.proj a (fun d => x (ix3 b t d)) ⟨r.val, by omega⟩ * a.dw (ix2 r d)) + a.db (ix1 d) := by
  pointwise [preArr]
  exact congrArg (· + a.db (ix1 d)) (Finset.sum_congr rfl fun r _ => congrArg (· * a.dw (ix2 r d)) (projArr_apply a x b t _))

/-- The softplus. -/
theorem softplusArr_apply (x : FVec Ideal S4x2048x2048 .f32) (y : S4x2048x2048.Idx) : softplusArr x y = Model.softplus (x y) := by
  pointwise [softplusArr]
  rw [if_neg (not_not.mpr rfl)]
  rfl

/-- A feature array by time. -/
theorem tr_apply (x : FVec Ideal S4x2048x2048 .f32) (t : Fin 2048) (b : Fin 4) (d : Fin 2048) :
    transpose S2048x4x2048 [1, 0, 2] x transposes_S4x2048x2048_S2048x4x2048_1_0_2 (ix3 t b d) = x (ix3 b t d) := by
  pointwise []

/-- A coefficient array by time. -/
theorem tr16_apply (x : FVec Ideal S4x2048x16 .f32) (t : Fin 2048) (b : Fin 4) (d : Fin 16) :
    transpose S2048x4x16 [1, 0, 2] x transposes_S4x2048x16_S2048x4x16_1_0_2 (ix3 t b d) = x (ix3 b t d) := by
  pointwise []

/-- The decay rates. -/
theorem rateArr_apply (d : Fin 2048) (n : Fin 16) : rateArr a.alog (ix2 d n) = Model.rate a d n := by
  pointwise [rateArr]
  rfl

/-- The first state is zero. -/
theorem zeroArr_apply (y : S4x2048x16.Idx) : zeroArr y = 0 := by
  pointwise [zeroArr]

/-- The scan's output with the skip connection. -/
theorem skipArr_apply (ys : FVec Ideal S2048x4x2048 .f32) (x : FVec Ideal S4x2048x2048 .f32) (s : FVec Ideal S2048 .f32) (b : Fin 4) (t d : Fin 2048) :
    (skipArr ys x s (ix3 b t d) : EReal) = ys (ix3 t b d) + s (ix1 d) * x (ix3 b t d) := by
  pointwise [skipArr]

/-- The head reads the last time only. -/
theorem headArr_apply (x z : FVec Ideal S4x2048x2048 .f32) (b : Fin 4) (j : Fin 1024) :
    (headArr x z a.ow a.fw a.fb (ix2 b j) : EReal)
      = (∑ k : Fin 1024, (∑ d : Fin 2048, x (ix3 b 2047 d) * z (ix3 b 2047 d) * a.ow (ix2 d k)) * a.fw (ix2 k j)) + a.fb (ix1 j) := by
  pointwise [headArr]

end Cert.ReferenceIdeal.Proof
-- ==== Proof.ReferenceIdeal.Trip.lean ====
/-
  One trip of the reference's loop, one element at a time.
-/
module

public import proofs.«01_k».proof.Proof.ReferenceIdeal.Elems

@[expose] public section

set_option maxRecDepth 16384

noncomputable section

namespace Cert.ReferenceIdeal.Proof

open Cert.ReferenceIdeal Cert.ReferenceIdeal.Gen
open Idealize.ShloMosaic

/-- Where the slices of trip `i` begin. -/
def startOf (i : IVec S_ 32) : Fin 3 → ℤ :=
  fun k => (((![i, constantI S_ 32 0#32, constantI S_ 32 0#32] : Fin 3 → IVec S_ 32)) k (Shape.Idx.first h_S_)).toInt

/-- The row of time `i`. -/
def rowAt (x : FVec Ideal S2048x4x2048 .f32) (i : IVec S_ 32) : FVec Ideal S4x2048 .f32 :=
  shapeCast S4x2048 (Host.dynamicSlice S1x4x2048 x (startOf i) sliceFits_S2048x4x2048_S1x4x2048) shapeCasts_S1x4x2048_S4x2048

/-- The coefficients of time `i`. -/
def coefAt (x : FVec Ideal S2048x4x16 .f32) (i : IVec S_ 32) : FVec Ideal S4x16 .f32 :=
  shapeCast S4x16 (Host.dynamicSlice S1x4x16 x (startOf i) sliceFits_S2048x4x16_S1x4x16) shapeCasts_S1x4x16_S4x16

/-- The next state from the row's step sizes and features, its input coefficients, the rates and the state. -/
def nextArr (dt x : FVec Ideal S4x2048 .f32) (bc : FVec Ideal S4x16 .f32) (r : FVec Ideal S2048x16 .f32) (h : FVec Ideal S4x2048x16 .f32) :
    FVec Ideal S4x2048x16 .f32 :=
  addf (mulf (Host.exp (mulf
      (broadcastInDim S4x2048x16 ![0, 1, 2] bcast_S4x2048x1_S4x2048x16_0_1_2 (broadcastInDim S4x2048x1 ![0, 1] bcast_S4x2048_S4x2048x1_0_1 dt))
      (broadcastInDim S4x2048x16 ![0, 1, 2] bcast_S1x2048x16_S4x2048x16_0_1_2 (broadcastInDim S1x2048x16 ![1, 2] bcast_S2048x16_S1x2048x16_1_2 r)))) h)
    (mulf
      (broadcastInDim S4x2048x16 ![0, 1, 2] bcast_S4x2048x1_S4x2048x16_0_1_2 (broadcastInDim S4x2048x1 ![0, 1] bcast_S4x2048_S4x2048x1_0_1 (mulf dt x)))
      (broadcastInDim S4x2048x16 ![0, 1, 2] bcast_S4x1x16_S4x2048x16_0_1_2 (broadcastInDim S4x1x16 ![0, 2] bcast_S4x16_S4x1x16_0_2 bc)))

/-- The outputs with the row of time `i` replaced. -/
def putArr (ys : FVec Ideal S2048x4x2048 .f32) (h : FVec Ideal S4x2048x16 .f32) (cc : FVec Ideal S4x16 .f32) (i : IVec S_ 32) :
    FVec Ideal S2048x4x2048 .f32 :=
  Host.dynamicUpdateSlice ys (broadcastInDim S1x4x2048 ![1, 2] bcast_S4x2048_S1x4x2048_1_2
    (Host.dotGeneral dot_S4x2048x16_S4x16_S4x2048_2_1_1_n_0_0 none h cc)) (startOf i) updateFits_S2048x4x2048_S1x4x2048

variable (i : IVec S_ 32) (t : Fin 2048) (hi : ∀ y, (i y).toInt = t.val)
include hi

omit hi in
/-- Indices with the same coordinates are the same. -/
theorem congr_ix3 {p q r : ℕ} {a a' : Fin p} {b b' : Fin q} {c c' : Fin r} (ha : a = a') (hb : b = b') (hc : c = c') : ix3 a b c = ix3 a' b' c' := by
  subst ha hb hc
  rfl

/-- A trip's slice begins at its time and takes the other axes whole. -/
theorem starts (n : ℕ) :
    Host.clampedStart ⟨3, ![2048, 4, n]⟩ ⟨3, ![1, 4, n]⟩ rfl (startOf i) 0 = t.val
      ∧ Host.clampedStart ⟨3, ![2048, 4, n]⟩ ⟨3, ![1, 4, n]⟩ rfl (startOf i) 1 = 0
      ∧ Host.clampedStart ⟨3, ![2048, 4, n]⟩ ⟨3, ![1, 4, n]⟩ rfl (startOf i) 2 = 0 := by
  have ht := t.isLt
  have h0 : startOf i 0 = ((t.val : ℕ) : ℤ) := hi _
  have h1 : startOf i 1 = ((0 : ℕ) : ℤ) := by show (0#32 : BitVec 32).toInt = 0; decide
  have h2 : startOf i 2 = ((0 : ℕ) : ℤ) := by show (0#32 : BitVec 32).toInt = 0; decide
  have l0 : t.val + 1 ≤ 2048 := ht
  exact ⟨Host.clampedStart_of_le (s := ⟨3, ![2048, 4, n]⟩) (t := ⟨3, ![1, 4, n]⟩) rfl (startOf i) 0 t.val h0 l0,
    Host.clampedStart_of_le (s := ⟨3, ![2048, 4, n]⟩) (t := ⟨3, ![1, 4, n]⟩) rfl (startOf i) 1 0 h1 (Nat.zero_add 4).le,
    Host.clampedStart_of_le (s := ⟨3, ![2048, 4, n]⟩) (t := ⟨3, ![1, 4, n]⟩) rfl (startOf i) 2 0 h2 (Nat.zero_add n).le⟩

/-- The row of time `t`, element by element. -/
theorem rowAt_apply (x : FVec Ideal S2048x4x2048 .f32) (b : Fin 4) (d : Fin 2048) : rowAt x i (ix2 b d) = x (ix3 t b d) := by
  pointwise [rowAt, startOf]
  obtain ⟨e0, e1, e2⟩ := starts i t hi 2048
  exact congrArg x (congr_ix3 (Fin.ext e0) (Fin.ext (by show _ + b.val = b.val; rw [e1, Nat.zero_add])) (Fin.ext (by show _ + d.val = d.val; rw [e2, Nat.zero_add])))

/-- The coefficients of time `t`, element by element. -/
theorem coefAt_apply (x : FVec Ideal S2048x4x16 .f32) (b : Fin 4) (n : Fin 16) : coefAt x i (ix2 b n) = x (ix3 t b n) := by
  pointwise [coefAt, startOf]
  obtain ⟨e0, e1, e2⟩ := starts i t hi 16
  exact congrArg x (congr_ix3 (Fin.ext e0) (Fin.ext (by show _ + b.val = b.val; rw [e1, Nat.zero_add])) (Fin.ext (by show _ + n.val = n.val; rw [e2, Nat.zero_add])))

omit hi in
/-- The next state is one step of the scan. -/
theorem nextArr_apply (dt x : FVec Ideal S4x2048 .f32) (bc : FVec Ideal S4x16 .f32) (r : FVec Ideal S2048x16 .f32) (h : FVec Ideal S4x2048x16 .f32)
    (b : Fin 4) (d : Fin 2048) (n : Fin 16) :
    nextArr dt x bc r h (ix3 b d n)
      = Scan.step (r (ix2 d n)) (dt (ix2 b d)) ((dt (ix2 b d) : EReal) * x (ix2 b d) * bc (ix2 b n)) (h (ix3 b d n)) := by
  pointwise [nextArr]
  rfl

/-- The new row is the state's output. -/
theorem putArr_apply (ys : FVec Ideal S2048x4x2048 .f32) (h : FVec Ideal S4x2048x16 .f32) (cc : FVec Ideal S4x16 .f32) (b : Fin 4) (d : Fin 2048) :
    (putArr ys h cc i (ix3 t b d) : EReal) = ∑ n : Fin 16, h (ix3 b d n) * cc (ix2 b n) := by
  pointwise [putArr, startOf]
  obtain ⟨e0, e1, e2⟩ := starts i t hi 2048
  rw [dif_pos ⟨⟨by rw [e0], by rw [e0]; omega⟩, by rw [e1]; omega, by rw [e2]; omega⟩]
  refine Finset.sum_congr rfl fun n _ => congrArg₂ (· * ·)
    (congrArg h (congr_ix3 (Fin.ext (by show b.val - _ = b.val; rw [e1, Nat.sub_zero])) (Fin.ext (by show d.val - _ = d.val; rw [e2, Nat.sub_zero])) rfl))
    (congrArg cc ?_)
  exact congrArg (fun q => ix2 q n) (Fin.ext (by show b.val - _ = b.val; rw [e1, Nat.sub_zero]))

end Cert.ReferenceIdeal.Proof
-- ==== Proof.ReferenceIdeal.Entry.lean ====
/-
  What the reference's loop begins with, as the model's functions of the arguments.
-/
module

public import proofs.«01_k».proof.Proof.ReferenceIdeal.Elems
public import proofs.«01_k».proof.Proof.ReferenceIdeal.Kept

@[expose] public section

set_option maxRecDepth 16384

noncomputable section

namespace Cert.ReferenceIdeal.Proof

open Cert.ReferenceIdeal Cert.ReferenceIdeal.Gen Cert.ReferenceIdeal.Value
open Idealize.ShloMosaic Idealize.ShloMosaic.TcCoe Idealize.ShloMosaic.Tactic
open Idealize.ShloMosaic.StableHlo

variable (m : (ℓ : Loc nD τ sig) → Buf (Elt Ideal) ℓ) (c : Dev nD)

/-- The arguments that the memory holds. -/
def argsOf : Model.Args where
  tok := m ((c : Thread nD τ).loc main_arg0)
  emb := m ((c : Thread nD τ).loc main_arg1)
  win := m ((c : Thread nD τ).loc main_arg2)
  cw := m ((c : Thread nD τ).loc main_arg3)
  cb := m ((c : Thread nD τ).loc main_arg4)
  xp := m ((c : Thread nD τ).loc main_arg5)
  dw := m ((c : Thread nD τ).loc main_arg6)
  db := m ((c : Thread nD τ).loc main_arg7)
  alog := m ((c : Thread nD τ).loc main_arg8)
  dskip := m ((c : Thread nD τ).loc main_arg9)
  ow := m ((c : Thread nD τ).loc main_arg10)
  fw := m ((c : Thread nD τ).loc main_arg11)
  fb := m ((c : Thread nD τ).loc main_arg12)

/-! ## The memory between the stretches -/

/-- At the start. -/
def R0 : Valuation τ sig (Elt Ideal) := launchContents m c
/-- After stretch 0. -/
def R1 : Valuation τ sig (Elt Ideal) := after hostOps0 (R0 m c)
/-- After stretch 1. -/
def R2 : Valuation τ sig (Elt Ideal) := after hostOps0_1 (R1 m c)
/-- After stretch 2. -/
def R3 : Valuation τ sig (Elt Ideal) := after hostOps0_2 (R2 m c)
/-- After stretch 3. -/
def R4 : Valuation τ sig (Elt Ideal) := after hostOps0_3 (R3 m c)
/-- After stretch 4. -/
def R5 : Valuation τ sig (Elt Ideal) := after hostOps0_4 (R4 m c)
/-- After stretch 5. -/
def R6 : Valuation τ sig (Elt Ideal) := after hostOps0_5 (R5 m c)
/-- After stretch 6. -/
def R7 : Valuation τ sig (Elt Ideal) := after hostOps0_6 (R6 m c)

/-- The loop begins with the memory after the last of these stretches. -/
theorem entry_eq : entryContents preI m c = R7 m c := rfl

/-- At the start every array is as given. -/
theorem R0_arg (r : Ref sig .tc) : R0 m c r = m ((c : Thread nD τ).loc r) := rfl

/-- Stretches 0 to 0 leave an argument as it was. -/
theorem R1_arg (r : Ref sig .tc) (h : r ∈ argRefs) : R1 m c r = m ((c : Thread nD τ).loc r) := (pre0_args _ r h).trans (R0_arg m c r)
/-- Stretches 0 to 1 leave an argument as it was. -/
theorem R2_arg (r : Ref sig .tc) (h : r ∈ argRefs) : R2 m c r = m ((c : Thread nD τ).loc r) := (pre1_args _ r h).trans (R1_arg m c r h)
/-- Stretches 0 to 2 leave an argument as it was. -/
theorem R3_arg (r : Ref sig .tc) (h : r ∈ argRefs) : R3 m c r = m ((c : Thread nD τ).loc r) := (pre2_args _ r h).trans (R2_arg m c r h)
/-- Stretches 0 to 3 leave an argument as it was. -/
theorem R4_arg (r : Ref sig .tc) (h : r ∈ argRefs) : R4 m c r = m ((c : Thread nD τ).loc r) := (pre3_args _ r h).trans (R3_arg m c r h)
/-- Stretches 0 to 4 leave an argument as it was. -/
theorem R5_arg (r : Ref sig .tc) (h : r ∈ argRefs) : R5 m c r = m ((c : Thread nD τ).loc r) := (pre4_args _ r h).trans (R4_arg m c r h)
/-- Stretches 0 to 5 leave an argument as it was. -/
theorem R6_arg (r : Ref sig .tc) (h : r ∈ argRefs) : R6 m c r = m ((c : Thread nD τ).loc r) := (pre5_args _ r h).trans (R5_arg m c r h)

/-! ## The arrays, as functions of the arguments -/

/-- The scan branch's features. -/
def featOf (a : Model.Args) : FVec Ideal S4x2048x2048 .f32 :=
  extractStridedSlice S4x2048x2048 ![0, 0, 0] (linArr a.tok a.emb a.win) slices_S4x2048x4096_S4x2048x2048_0_0_0

/-- The gate's features. -/
def gateOf (a : Model.Args) : FVec Ideal S4x2048x2048 .f32 :=
  extractStridedSlice S4x2048x2048 ![0, 0, 2048] (linArr a.tok a.emb a.win) slices_S4x2048x4096_S4x2048x2048_0_0_2048

/-- The convolved, activated features. -/
def xcOf (a : Model.Args) : FVec Ideal S4x2048x2048 .f32 :=
  siluArr (convArr (padArr (featOf a) (constantI S_ 32 0#32)) a.cw a.cb)

/-- The step sizes. -/
def dtOf (a : Model.Args) : FVec Ideal S4x2048x2048 .f32 :=
  softplusArr (preArr (xcOf a) a.xp a.dw a.db)

/-- The convolved features are the model's. -/
theorem xcOf_apply (a : Model.Args) (h : ∀ y, (a.tok y).toNat < 1024) (b : Fin 4) (t d : Fin 2048) :
    xcOf a (ix3 b t d) = Model.xc a b t.val d := by
  have hp : ∀ (s : ℕ) (hs : s < 2051), (padArr (featOf a) (constantI S_ 32 0#32) (ix3 b ⟨s, hs⟩ d) : EReal) = Model.padded a b s d := by
    intro s hs
    rw [padArr_apply]
    unfold Model.padded
    by_cases h3 : s < 3
    · rw [dif_pos h3, if_pos h3]
    · rw [dif_neg h3, if_neg h3]
      exact v8_apply a h b ⟨s - 3, by omega⟩ d
  unfold xcOf
  rw [siluArr_apply, convArr_apply, hp, hp, hp, hp]
  rfl

/-- A row of convolved features is the model's row. -/
theorem xcOf_row (a : Model.Args) (h : ∀ y, (a.tok y).toNat < 1024) (b : Fin 4) (t : Fin 2048) :
    (fun d => (xcOf a (ix3 b t d) : EReal)) = Model.xc a b t.val := funext fun d => xcOf_apply a h b t d

/-- The step sizes are the model's. -/
theorem dtOf_apply (a : Model.Args) (h : ∀ y, (a.tok y).toNat < 1024) (b : Fin 4) (t d : Fin 2048) :
    dtOf a (ix3 b t d) = Model.delta a (Model.xc a b t.val) d := by
  unfold dtOf
  rw [softplusArr_apply, preArr_apply, xcOf_row a h]
  rfl

/-! ## What the loop begins with -/

/-- The convolved features, once computed. -/
theorem R4_v43 : (R4 m c main_v43 : FVec Ideal S4x2048x2048 .f32) = xcOf (argsOf m c) := by
  refine (st3_v43 (R3 m c)).trans ?_
  rw [show (R3 m c main_v42 : FVec Ideal S4x2048x2048 .f32) = _ from st2_v42 (R2 m c),
    show (R2 m c main_v10 : FVec Ideal S4x2051x2048 .f32) = _ from st1_v10 (R1 m c),
    show (R1 m c main_v8 : FVec Ideal S4x2048x2048 .f32) = _ from st0_v8 (R0 m c),
    show (R1 m c main_c_1 : IVec S_ 32) = _ from st0_c1 (R0 m c),
    R2_arg m c main_arg3 (by decide), R2_arg m c main_arg4 (by decide)]
  rfl

/-- The convolved features, before the last stretch. -/
theorem R6_v43 : (R6 m c main_v43 : FVec Ideal S4x2048x2048 .f32) = xcOf (argsOf m c) :=
  (after_of_writes_sub _ (R5 m c) hostOps0_5_writes (by decide +kernel)).trans
    ((after_of_writes_sub _ (R4 m c) hostOps0_4_writes (by decide +kernel)).trans (R4_v43 m c))

/-- The convolved features, at the loop. -/
theorem R7_v43 : (R7 m c main_v43 : FVec Ideal S4x2048x2048 .f32) = xcOf (argsOf m c) :=
  (after_of_writes_sub _ (R6 m c) hostOps0_6_writes (by decide +kernel)).trans (R6_v43 m c)

/-- The gate's features, at the loop. -/
theorem R7_v9 : (R7 m c main_v9 : FVec Ideal S4x2048x2048 .f32) = gateOf (argsOf m c) :=
  (after_of_writes_sub _ (R6 m c) hostOps0_6_writes (by decide +kernel)).trans
  ((after_of_writes_sub _ (R5 m c) hostOps0_5_writes (by decide +kernel)).trans
  ((after_of_writes_sub _ (R4 m c) hostOps0_4_writes (by decide +kernel)).trans
  ((after_of_writes_sub _ (R3 m c) hostOps0_3_writes (by decide +kernel)).trans
  ((after_of_writes_sub _ (R2 m c) hostOps0_2_writes (by decide +kernel)).trans
  ((after_of_writes_sub _ (R1 m c) hostOps0_1_writes (by decide +kernel)).trans
  (st0_v9 (R0 m c)))))))

/-- The input coefficients, before the last stretch. -/
theorem R6_v46 : (R6 m c main_v46 : FVec Ideal S4x2048x16 .f32)
    = extractStridedSlice S4x2048x16 ![0, 0, 64] (projArr (xcOf (argsOf m c)) (argsOf m c).xp) slices_S4x2048x96_S4x2048x16_0_0_64 := by
  refine (after_of_writes_sub _ (R5 m c) hostOps0_5_writes (by decide +kernel)).trans ((st4_v46 (R4 m c)).trans ?_)
  rw [R4_v43, R4_arg m c main_arg5 (by decide)]
  rfl

/-- The output coefficients, before the last stretch. -/
theorem R6_v47 : (R6 m c main_v47 : FVec Ideal S4x2048x16 .f32)
    = extractStridedSlice S4x2048x16 ![0, 0, 80] (projArr (xcOf (argsOf m c)) (argsOf m c).xp) slices_S4x2048x96_S4x2048x16_0_0_80 := by
  refine (after_of_writes_sub _ (R5 m c) hostOps0_5_writes (by decide +kernel)).trans ((st4_v47 (R4 m c)).trans ?_)
  rw [R4_v43, R4_arg m c main_arg5 (by decide)]
  rfl

/-- The step sizes, before the last stretch. -/
theorem R6_v52 : (R6 m c main_v52 : FVec Ideal S4x2048x2048 .f32) = dtOf (argsOf m c) := by
  refine (st5_v52 (R5 m c)).trans ?_
  rw [show (R5 m c main_v51 : FVec Ideal S4x2048x2048 .f32) = _ from st4_v51 (R4 m c), R4_v43, R4_arg m c main_arg5 (by decide),
    R4_arg m c main_arg6 (by decide), R4_arg m c main_arg7 (by decide)]
  rfl

variable (h : ∀ y, ((argsOf m c).tok y).toNat < 1024)
include h

/-- The step sizes, by time. -/
theorem entry_dt (t : Fin 2048) (b : Fin 4) (d : Fin 2048) :
    (R7 m c main_v61_0 : FVec Ideal S2048x4x2048 .f32) (ix3 t b d) = Model.delta (argsOf m c) (Model.xc (argsOf m c) b t.val) d := by
  rw [show (R7 m c main_v61_0 : FVec Ideal S2048x4x2048 .f32) = _ from st6_v61_0 (R6 m c), R6_v52, tr_apply]
  exact dtOf_apply _ h b t d

/-- The input coefficients, by time. -/
theorem entry_b (t : Fin 2048) (b : Fin 4) (n : Fin 16) :
    (R7 m c main_v61_1 : FVec Ideal S2048x4x16 .f32) (ix3 t b n) = Model.bcoef (argsOf m c) (Model.xc (argsOf m c) b t.val) n := by
  rw [show (R7 m c main_v61_1 : FVec Ideal S2048x4x16 .f32) = _ from st6_v61_1 (R6 m c), R6_v46, tr16_apply, v46_apply, xcOf_row _ h]

/-- The output coefficients, by time. -/
theorem entry_c (t : Fin 2048) (b : Fin 4) (n : Fin 16) :
    (R7 m c main_v61_2 : FVec Ideal S2048x4x16 .f32) (ix3 t b n) = Model.ccoef (argsOf m c) (Model.xc (argsOf m c) b t.val) n := by
  rw [show (R7 m c main_v61_2 : FVec Ideal S2048x4x16 .f32) = _ from st6_v61_2 (R6 m c), R6_v47, tr16_apply, v47_apply, xcOf_row _ h]

/-- The features, by time. -/
theorem entry_x (t : Fin 2048) (b : Fin 4) (d : Fin 2048) :
    (R7 m c main_v61_3 : FVec Ideal S2048x4x2048 .f32) (ix3 t b d) = Model.xc (argsOf m c) b t.val d := by
  rw [show (R7 m c main_v61_3 : FVec Ideal S2048x4x2048 .f32) = _ from st6_v61_3 (R6 m c), R6_v43, tr_apply]
  exact xcOf_apply _ h b t d

omit h in
/-- The decay rates. -/
theorem entry_rate (d : Fin 2048) (n : Fin 16) :
    (R7 m c main_v61_4 : FVec Ideal S2048x16 .f32) (ix2 d n) = Model.rate (argsOf m c) d n := by
  rw [show (R7 m c main_v61_4 : FVec Ideal S2048x16 .f32) = _ from st6_v61_4 (R6 m c), R6_arg m c main_arg8 (by decide)]
  exact rateArr_apply (argsOf m c) d n

omit h in
/-- The first state is zero. -/
theorem entry_zero (y : S4x2048x16.Idx) : (R7 m c main_v61_6 : FVec Ideal S4x2048x16 .f32) y = (0 : EReal) := by
  rw [show (R7 m c main_v61_6 : FVec Ideal S4x2048x16 .f32) = _ from st6_v61_6 (R6 m c)]
  exact zeroArr_apply y

end Cert.ReferenceIdeal.Proof
-- ==== Proof.ReferenceIdeal.Loop.lean ====
/-
  The reference's loop computes the model's states, and its last trip the last time's output.
-/
module

public import proofs.«01_k».proof.Proof.ReferenceIdeal.Trip
public import proofs.«01_k».proof.Proof.ReferenceIdeal.Entry
public import Idealize.ShloMosaic.Lib.WordArith.Masks

@[expose] public section

set_option maxRecDepth 16384

noncomputable section

namespace Cert.ReferenceIdeal.Proof

open Cert.ReferenceIdeal Cert.ReferenceIdeal.Gen Cert.ReferenceIdeal.Value
open Idealize.ShloMosaic Idealize.ShloMosaic.TcCoe Idealize.ShloMosaic.Tactic
open Idealize.ShloMosaic.StableHlo

/-- A trip's new state, of the contents before it. -/
theorem trip_state (V : Valuation τ sig (Elt Ideal)) :
    (res_main_while0b_v93 V : FVec Ideal S4x2048x16 .f32)
      = nextArr (rowAt (V main_v61_0) (V main_v61_5)) (rowAt (V main_v61_3) (V main_v61_5)) (coefAt (V main_v61_1) (V main_v61_5))
          (V main_v61_4) (V main_v61_6) := rfl

/-- A trip's new outputs, of the contents before it. -/
theorem trip_out (V : Valuation τ sig (Elt Ideal)) :
    (step_main_v61_7 V : FVec Ideal S2048x4x2048 .f32)
      = putArr (V main_v61_7) (res_main_while0b_v93 V) (coefAt (V main_v61_2) (V main_v61_5)) (V main_v61_5) := rfl

variable (m : (ℓ : Loc nD τ sig) → Buf (Elt Ideal) ℓ) (c : Dev nD)

/-- The loop leaves the step sizes as they were. -/
theorem at_dt : ∀ k, atK m k c main_v61_0 = R7 m c main_v61_0
  | 0 => rfl
  | k + 1 => ((trip_main_v61_0 _).trans (cond_keeps (atK m k c) main_v61_0 (by decide))).trans (at_dt k)

/-- The loop leaves the input coefficients as they were. -/
theorem at_b : ∀ k, atK m k c main_v61_1 = R7 m c main_v61_1
  | 0 => rfl
  | k + 1 => ((trip_main_v61_1 _).trans (cond_keeps (atK m k c) main_v61_1 (by decide))).trans (at_b k)

/-- The loop leaves the output coefficients as they were. -/
theorem at_c : ∀ k, atK m k c main_v61_2 = R7 m c main_v61_2
  | 0 => rfl
  | k + 1 => ((trip_main_v61_2 _).trans (cond_keeps (atK m k c) main_v61_2 (by decide))).trans (at_c k)

/-- The loop leaves the features as they were. -/
theorem at_x : ∀ k, atK m k c main_v61_3 = R7 m c main_v61_3
  | 0 => rfl
  | k + 1 => ((trip_main_v61_3 _).trans (cond_keeps (atK m k c) main_v61_3 (by decide))).trans (at_x k)

/-- The loop leaves the decay rates as they were. -/
theorem at_rate : ∀ k, atK m k c main_v61_4 = R7 m c main_v61_4
  | 0 => rfl
  | k + 1 => ((trip_main_v61_4 _).trans (cond_keeps (atK m k c) main_v61_4 (by decide))).trans (at_rate k)

/-- The state after a trip. -/
theorem state_succ (k : ℕ) : (atK m (k + 1) c main_v61_6 : FVec Ideal S4x2048x16 .f32) = res_main_while0b_v93 (atK m k c) :=
  (trip_main_v61_6 _).trans (res_main_while0b_v93_congr (cond_keeps (atK m k c)))

/-- The outputs after a trip. -/
theorem out_succ (k : ℕ) : (atK m (k + 1) c main_v61_7 : FVec Ideal S2048x4x2048 .f32) = step_main_v61_7 (atK m k c) :=
  (trip_main_v61_7 _).trans (step_main_v61_7_congr (cond_keeps (atK m k c)))

/-- Trip `k`'s counter is `k`. -/
theorem ctr_at (k : Fin 2048) (y : S_.Idx) : ((atK m k.val c main_v61_5 : IVec S_ 32) y).toInt = k.val := by
  rw [show (atK m k.val c main_v61_5 : IVec S_ 32) = _ from atK_ctr m c k.val]
  have e := WordArith.toNat_iv_zero_one k.val (by omega)
  show (Scf.iv 0#32 1#32 k.val).toInt = k.val
  rw [BitVec.toInt_eq_toNat_of_lt (by omega), e]

variable (h : ∀ y, ((argsOf m c).tok y).toNat < 1024)
include h

/-- Trip `k` makes one step of the state. -/
theorem trip_step (k : Fin 2048) (b : Fin 4) (d : Fin 2048) (n : Fin 16) :
    (res_main_while0b_v93 (atK m k.val c) : FVec Ideal S4x2048x16 .f32) (ix3 b d n)
      = Scan.step (Model.rate (argsOf m c) d n) (Model.delta (argsOf m c) (Model.xc (argsOf m c) b k.val) d)
          (Model.input (argsOf m c) (Model.xc (argsOf m c) b k.val) d n) ((atK m k.val c main_v61_6 : FVec Ideal S4x2048x16 .f32) (ix3 b d n)) := by
  have hi := ctr_at m c k
  rw [trip_state, nextArr_apply, rowAt_apply _ k hi, rowAt_apply _ k hi, coefAt_apply _ k hi, at_dt, at_x, at_b, at_rate,
    entry_dt m c h, entry_x m c h, entry_b m c h, entry_rate]
  rfl

/-- Before trip `k` the loop holds the model's state at time `k`. -/
theorem state_at (b : Fin 4) (d : Fin 2048) (n : Fin 16) : ∀ k ≤ 2048,
    (atK m k c main_v61_6 : FVec Ideal S4x2048x16 .f32) (ix3 b d n) = Model.state (argsOf m c) b k d n
  | 0, _ => entry_zero m c _
  | k + 1, hk => by
    rw [state_succ, trip_step m c h ⟨k, hk⟩ b d n, state_at b d n k (by omega)]
    rfl

/-- After trip `k` row `k` of the outputs holds the new state's output. -/
theorem out_row (k : ℕ) (hk : k < 2048) (b : Fin 4) (d : Fin 2048) :
    (atK m (k + 1) c main_v61_7 : FVec Ideal S2048x4x2048 .f32) (ix3 ⟨k, hk⟩ b d)
      = ∑ n : Fin 16, Model.state (argsOf m c) b (k + 1) d n * Model.ccoef (argsOf m c) (Model.xc (argsOf m c) b k) n := by
  have hi := ctr_at m c ⟨k, hk⟩
  rw [out_succ, trip_out]
  refine (putArr_apply _ ⟨k, hk⟩ hi _ _ _ b d).trans (Finset.sum_congr rfl fun n _ => ?_)
  rw [coefAt_apply _ ⟨k, hk⟩ hi, at_c, entry_c m c h]
  refine congrArg (· * Model.ccoef (argsOf m c) (Model.xc (argsOf m c) b k) n) ?_
  rw [← state_at m c h b d n (k + 1) hk, state_succ]

/-- After the loop the last row holds the last state's output. -/
theorem out_last (b : Fin 4) (d : Fin 2048) :
    (atK m 2048 c main_v61_7 : FVec Ideal S2048x4x2048 .f32) (ix3 2047 b d)
      = ∑ n : Fin 16, Model.state (argsOf m c) b 2048 d n * Model.ccoef (argsOf m c) (Model.xc (argsOf m c) b 2047) n :=
  out_row m c h 2047 (by decide) b d

end Cert.ReferenceIdeal.Proof
-- ==== Proof.ReferenceIdeal.Result.lean ====
/-
  The reference's result is the logits of its arguments.
-/
module

public import proofs.«01_k».proof.Proof.ReferenceIdeal.Loop

@[expose] public section

set_option maxRecDepth 16384

noncomputable section

namespace Cert.ReferenceIdeal.Proof

open Cert.ReferenceIdeal Cert.ReferenceIdeal.Gen Cert.ReferenceIdeal.Value
open Idealize.ShloMosaic Idealize.ShloMosaic.TcCoe Idealize.ShloMosaic.Tactic
open Idealize.ShloMosaic.StableHlo

/-- The operations after the loop, on a memory whose last row is the last state's output. -/
theorem head_model (a : Model.Args) (h : ∀ y, (a.tok y).toNat < 1024) (ys : FVec Ideal S2048x4x2048 .f32)
    (hy : ∀ (b : Fin 4) (d : Fin 2048),
      ys (ix3 2047 b d) = ∑ n : Fin 16, Model.state a b 2048 d n * Model.ccoef a (Model.xc a b 2047) n)
    (b : Fin 4) (j : Fin 1024) :
    headArr (skipArr ys (xcOf a) a.dskip) (siluArr (gateOf a)) a.ow a.fw a.fb (ix2 b j) = Model.logits a b j := by
  rw [headArr_apply]
  refine congrArg (· + a.fb (ix1 j)) (Finset.sum_congr rfl fun k _ => congrArg (· * a.fw (ix2 k j))
    (Finset.sum_congr rfl fun d _ => congrArg (· * a.ow (ix2 d k)) ?_))
  rw [skipArr_apply, siluArr_apply, hy, xcOf_apply a h]
  exact congrArg (_ * Model.silu ·) (v9_apply a h b 2047 d)

variable (m : (ℓ : Loc nD τ sig) → Buf (Elt Ideal) ℓ) (c : Dev nD)

/-! ## The memory after the loop -/

/-- The memory after the loop's last condition, and after each later stretch. -/
def Q0 : Valuation τ sig (Elt Ideal) := after condOps (atK m 2048 c)
/-- After the skip connection. -/
def Q1 : Valuation τ sig (Elt Ideal) := after hostOps0_7 (Q0 m c)
/-- After the gate's activation. -/
def Q2 : Valuation τ sig (Elt Ideal) := after hostOps0_8 (Q1 m c)
/-- At the end. -/
def Q3 : Valuation τ sig (Elt Ideal) := after hostOps0_9 (Q2 m c)

/-- The final memory is the last of these. -/
theorem final_eq : finalContents condOps preI bodyI postI 2048 m c = Q3 m c := rfl

/-- The loop leaves a kept array as it was. -/
theorem Q0_kept (r : Ref sig .tc) (hr : r ∈ keptRefs) : Q0 m c r = R7 m c r := (cond_keep _ r hr).trans (atK_keep m c 2048 r hr)

/-- After the loop an argument is as it was. -/
theorem Q0_arg (r : Ref sig .tc) (hr : r ∈ argRefs) : Q0 m c r = m ((c : Thread nD τ).loc r) :=
  (Q0_kept m c r (argRefs_kept r hr)).trans (entry_args m c r hr)

/-- Before the last stretch an argument is as it was. -/
theorem Q2_arg (r : Ref sig .tc) (hr : r ∈ argRefs) : Q2 m c r = m ((c : Thread nD τ).loc r) :=
  (post8_args _ r hr).trans ((post7_args _ r hr).trans (Q0_arg m c r hr))

/-- The scan's output with the skip connection. -/
theorem Q2_v66 : (Q2 m c main_v66 : FVec Ideal S4x2048x2048 .f32)
    = skipArr (atK m 2048 c main_v61_7) (xcOf (argsOf m c)) (argsOf m c).dskip := by
  refine (after_of_writes_sub _ (Q1 m c) post8_writes (by decide +kernel)).trans ((st7_v66 (Q0 m c)).trans ?_)
  rw [Q0_arg m c main_arg9 (by decide), Q0_kept m c main_v43 (by decide), R7_v43,
    show Q0 m c main_v61_7 = atK m 2048 c main_v61_7 from cond_keeps (atK m 2048 c) main_v61_7 (by decide)]
  rfl

/-- The activated gate. -/
theorem Q2_v67 : (Q2 m c main_v67 : FVec Ideal S4x2048x2048 .f32) = siluArr (gateOf (argsOf m c)) := by
  refine (st8_v67 (Q1 m c)).trans (congrArg siluArr ?_)
  exact (after_of_writes_sub _ (Q0 m c) post7_writes (by decide +kernel)).trans ((Q0_kept m c main_v9 (by decide)).trans (R7_v9 m c))

/-- The reference's result at `(b, j)` is the model's logit. -/
theorem result_value (h : ∀ y, ((argsOf m c).tok y).toNat < 1024) (b : Fin 4) (j : Fin 1024) :
    (finalContents condOps preI bodyI postI 2048 m c main_v75 : FVec Ideal S4x1024 .f32) (ix2 b j) = Model.logits (argsOf m c) b j := by
  rw [final_eq, show (Q3 m c main_v75 : FVec Ideal S4x1024 .f32) = _ from st9_v75 (Q2 m c), Q2_v66, Q2_v67,
    Q2_arg m c main_arg10 (by decide), Q2_arg m c main_arg11 (by decide), Q2_arg m c main_arg12 (by decide)]
  exact head_model (argsOf m c) h _ (out_last m c h) b j

end Cert.ReferenceIdeal.Proof
-- ==== Proof.Equal.lean ====
/-
  On the same arguments the kernel's result is the reference's.
-/
module

public import proofs.«01_k».proof.Proof.Range
public import proofs.«01_k».proof.Proof.KernelIdeal.Result
public import proofs.«01_k».proof.Proof.ReferenceIdeal.Result

@[expose] public section

set_option maxRecDepth 16384

noncomputable section

namespace Cert.Equal

open Idealize.ShloMosaic Idealize.ShloMosaic.TcCoe Idealize.SL.Sem

/-- Two result arrays that hold the logits of the same arguments are the same. -/
theorem eq_of_logits (a a' : Model.Args) (e : a = a') (x y : (⟨2, ![4, 1024]⟩ : Shape).Idx → EReal)
    (hx : ∀ b j, x (ix2 b j) = Model.logits a b j) (hy : ∀ b j, y (ix2 b j) = Model.logits a' b j) : x = y := by
  subst e
  funext i
  rw [eq_ix2 i]
  exact (hx _ _).trans (hy _ _).symm

/-- Both programs, on the same arguments with tokens in range, end with the same result and their arguments as they were. -/
theorem equal : Cert.algebraic_KernelIdeal_ReferenceIdeal (hKernelIdeal := Cert.KernelIdeal.Gen.facts)
    (hReferenceIdeal := Cert.ReferenceIdeal.Gen.facts) (hPre_tokens_in_range := Cert.Range.facts) := by
  intro m g m' g' hpre heq
  have htok := Cert.Range.of_kernelIdeal m hpre
  have hargs : ∀ c, Cert.KernelIdeal.Proof.argsOf m c = Cert.ReferenceIdeal.Proof.argsOf m' c := by
    intro c
    obtain ⟨h0, h1, h2, h3, h4, h5, h6, h7, h8, h9, h10, h11, h12⟩ := heq c
    unfold Cert.KernelIdeal.Proof.argsOf Cert.ReferenceIdeal.Proof.argsOf
    congr 1
    all_goals apply Eq.symm
    all_goals assumption
  refine ⟨fun c => Cert.KernelIdeal.Proof.B6 m c Cert.KernelIdeal.main_v18, Cert.KernelIdeal.Proof.result_run m g htok,
    (θ_run Cert.ReferenceIdeal.defs _ _).mono (fun r hr c => ⟨(hr c).1.trans ?_, (hr c).2⟩) (Cert.ReferenceIdeal.Proof.result_run m' g')⟩
  have ht : ∀ y, ((Cert.ReferenceIdeal.Proof.argsOf m' c).tok y).toNat < 1024 := by
    rw [← hargs c]
    exact htok c
  exact eq_of_logits _ _ (hargs c).symm _ _ (Cert.ReferenceIdeal.Proof.result_value m' c ht) (Cert.KernelIdeal.Proof.result_value m c)

end Cert.Equal
-- ==== Proof.lean ====
/-
  The certificate's claims, assembled from the modules below.
-/
module

public import proofs.«01_k».proof.Defs
public import proofs.«01_k».proof.Proof.Range
public import proofs.«01_k».proof.Proof.Kernel.Launch
public import proofs.«01_k».proof.Proof.KernelIdeal.Launch
public import proofs.«01_k».proof.Proof.ReferenceIdeal.Kept
public import proofs.«01_k».proof.Proof.Equal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel and its idealization, on tokens that are rows of the table, and the reference on any arguments, terminate without a fault,
leave their arguments as they were and every counter at zero; the idealization is the kernel's; and on the same arguments the idealization's
result is the reference's. -/
theorem claim : Cert.Claim :=
  ⟨Cert.Kernel.Gen.facts, Cert.KernelIdeal.Gen.facts, Cert.ReferenceIdeal.Gen.facts, Cert.Range.facts,
    fun m g h => Cert.Kernel.Proof.args_kept m g fun c => Cert.Range.of_kernel m h c,
    fun m g h => Cert.KernelIdeal.Proof.args_kept m g fun c => Cert.Range.of_kernelIdeal m h c,
    fun m g _ => Cert.ReferenceIdeal.Proof.args_kept m g,
    fun m g _ => Cert.ReferenceIdeal.Proof.args_kept m g,
    trivial,
    Cert.Equal.equal⟩

end Cert.Proof

end
